-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![4096, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v22) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S4096x2048 : Shape := ⟨2, ![4096, 2048]⟩
abbrev S512x2048 : Shape := ⟨2, ![512, 2048]⟩
abbrev S7x512x512 : Shape := ⟨3, ![7, 512, 512]⟩
abbrev S8x512x512 : Shape := ⟨3, ![8, 512, 512]⟩
abbrev S7x8x128 : Shape := ⟨3, ![7, 8, 128]⟩
abbrev S8x8x128 : Shape := ⟨3, ![8, 8, 128]⟩
abbrev S8 : Shape := ⟨1, ![8]⟩
abbrev S_ : Shape := ⟨0, ![]⟩
abbrev S512x512 : Shape := ⟨2, ![512, 512]⟩
abbrev S1x512x512 : Shape := ⟨3, ![1, 512, 512]⟩
abbrev S1 : Shape := ⟨1, ![1]⟩
abbrev S1x1x1 : Shape := ⟨3, ![1, 1, 1]⟩
abbrev S8x128 : Shape := ⟨2, ![8, 128]⟩
abbrev S1x8x128 : Shape := ⟨3, ![1, 8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S4096x2048, .f32⟩
  | .hbm, ⟨2, _⟩ => ⟨S512x2048, .f32⟩
  | .local _ .vmem, ⟨0, _⟩ => ⟨S4096x512, .f32⟩
  | .local _ .vmem, ⟨1, _⟩ => ⟨S4096x2048, .f32⟩
  | .local _ .vmem, ⟨2, _⟩ => ⟨S512x2048, .f32⟩
  | .local _ .vmem, ⟨3, _⟩ => ⟨S7x512x512, .i8⟩
  | .local _ .vmem, ⟨4, _⟩ => ⟨S8x512x512, .i8⟩
  | .local _ .vmem, ⟨5, _⟩ => ⟨S7x8x128, .f32⟩
  | .local _ .vmem, ⟨6, _⟩ => ⟨S8x8x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) (c1_i32_63 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v95 : BitVec 32 := Scalar.addi v2 c1_i32_63
  let c8_i32_64 : BitVec 32 := 8#32
  let c0_i32_65 : BitVec 32 := 0#32
  let v96 : BitVec 1 := Scalar.cmpi .eq c8_i32_64 c0_i32_65
  let c1_i32_66 : BitVec 32 := 1#32
  let v97 : BitVec 32 := Scalar.select v96 c1_i32_66 c8_i32_64
  let v98 : BitVec 32 := Scalar.remsi v95 v97
  let c0_i32_68 : BitVec 32 := 0#32
  let v100 : BitVec 1 := Scalar.cmpi .slt v98 c0_i32_68
  let c0_i32_69 : BitVec 32 := 0#32
  let v101 : BitVec 1 := Scalar.cmpi .slt v97 c0_i32_69
  let v102 : BitVec 1 := Scalar.xori v100 v101
  let c0_i32_67 : BitVec 32 := 0#32
  let v99 : BitVec 1 := Scalar.cmpi .ne v98 c0_i32_67
  let v103 : BitVec 1 := Scalar.andi v102 v99
  let v104 : BitVec 32 := Scalar.addi v98 v97
  let v105 : BitVec 32 := Scalar.select v103 v104 v98
  let c512_i32 : BitVec 32 := 512#32
  let v106 : BitVec 32 := Scalar.muli v105 c512_i32
  let v107 : Index := Scalar.indexCast v106
  let c0 : Index := 0#32
  ![v107.toNat, 0]
def k0_off2 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_92 : BitVec 32 := 0#32
  let c0_i32_93 : BitVec 32 := 0#32
  ![v2.toNat, 0, 0]
def k0_dev8 (d0 : Dev nD) : Nat :=
  let c0_i32_91 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_81 : BitVec 32 := 1#32
  let v132 : BitVec 32 := Scalar.addi v2 c1_i32_81
  let c8_i32_82 : BitVec 32 := 8#32
  let c0_i32_83 : BitVec 32 := 0#32
  let v133 : BitVec 1 := Scalar.cmpi .eq c8_i32_82 c0_i32_83
  let c1_i32_84 : BitVec 32 := 1#32
  let v134 : BitVec 32 := Scalar.select v133 c1_i32_84 c8_i32_82
  let v135 : BitVec 32 := Scalar.remsi v132 v134
  let c0_i32_86 : BitVec 32 := 0#32
  let v137 : BitVec 1 := Scalar.cmpi .slt v135 c0_i32_86
  let c0_i32_87 : BitVec 32 := 0#32
  let v138 : BitVec 1 := Scalar.cmpi .slt v134 c0_i32_87
  let v139 : BitVec 1 := Scalar.xori v137 v138
  let c0_i32_85 : BitVec 32 := 0#32
  let v136 : BitVec 1 := Scalar.cmpi .ne v135 c0_i32_85
  let v140 : BitVec 1 := Scalar.andi v139 v136
  let v141 : BitVec 32 := Scalar.addi v135 v134
  let v142 : BitVec 32 := Scalar.select v140 v141 v135
  let c1_i32_90 : BitVec 32 := 1#32
  let v143 : BitVec 32 := Scalar.muli v142 c1_i32_90
  let v144 : BitVec 32 := Scalar.addi c0_i32_91 v143
  v144.toNat
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_100 : BitVec 32 := 0#32
  let c0_i32_101 : BitVec 32 := 0#32
  ![v2.toNat, 0, 0]
def k0_dev9 (d0 : Dev nD) : Nat :=
  let c0_i32_99 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_81 : BitVec 32 := 1#32
  let v132 : BitVec 32 := Scalar.addi v2 c1_i32_81
  let c8_i32_82 : BitVec 32 := 8#32
  let c0_i32_83 : BitVec 32 := 0#32
  let v133 : BitVec 1 := Scalar.cmpi .eq c8_i32_82 c0_i32_83
  let c1_i32_84 : BitVec 32 := 1#32
  let v134 : BitVec 32 := Scalar.select v133 c1_i32_84 c8_i32_82
  let v135 : BitVec 32 := Scalar.remsi v132 v134
  let c0_i32_86 : BitVec 32 := 0#32
  let v137 : BitVec 1 := Scalar.cmpi .slt v135 c0_i32_86
  let c0_i32_87 : BitVec 32 := 0#32
  let v138 : BitVec 1 := Scalar.cmpi .slt v134 c0_i32_87
  let v139 : BitVec 1 := Scalar.xori v137 v138
  let c0_i32_85 : BitVec 32 := 0#32
  let v136 : BitVec 1 := Scalar.cmpi .ne v135 c0_i32_85
  let v140 : BitVec 1 := Scalar.andi v139 v136
  let v141 : BitVec 32 := Scalar.addi v135 v134
  let v142 : BitVec 32 := Scalar.select v140 v141 v135
  let c1_i32_98 : BitVec 32 := 1#32
  let v153 : BitVec 32 := Scalar.muli v142 c1_i32_98
  let v154 : BitVec 32 := Scalar.addi c0_i32_99 v153
  v154.toNat
def k0_dev10 (d0 : Dev nD) : Nat :=
  let c0_i32_133 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_104 : BitVec 32 := 2#32
  let v163 : BitVec 32 := Scalar.addi v2 c2_i32_104
  let c8_i32_105 : BitVec 32 := 8#32
  let c0_i32_106 : BitVec 32 := 0#32
  let v164 : BitVec 1 := Scalar.cmpi .eq c8_i32_105 c0_i32_106
  let c1_i32_107 : BitVec 32 := 1#32
  let v165 : BitVec 32 := Scalar.select v164 c1_i32_107 c8_i32_105
  let v166 : BitVec 32 := Scalar.remsi v163 v165
  let c0_i32_109 : BitVec 32 := 0#32
  let v168 : BitVec 1 := Scalar.cmpi .slt v166 c0_i32_109
  let c0_i32_110 : BitVec 32 := 0#32
  let v169 : BitVec 1 := Scalar.cmpi .slt v165 c0_i32_110
  let v170 : BitVec 1 := Scalar.xori v168 v169
  let c0_i32_108 : BitVec 32 := 0#32
  let v167 : BitVec 1 := Scalar.cmpi .ne v166 c0_i32_108
  let v171 : BitVec 1 := Scalar.andi v170 v167
  let v172 : BitVec 32 := Scalar.addi v166 v165
  let v173 : BitVec 32 := Scalar.select v171 v172 v166
  let c1_i32_132 : BitVec 32 := 1#32
  let v211 : BitVec 32 := Scalar.muli v173 c1_i32_132
  let v212 : BitVec 32 := Scalar.addi c0_i32_133 v211
  v212.toNat
def k0_dev11 (d0 : Dev nD) : Nat :=
  let c0_i32_141 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_104 : BitVec 32 := 2#32
  let v163 : BitVec 32 := Scalar.addi v2 c2_i32_104
  let c8_i32_105 : BitVec 32 := 8#32
  let c0_i32_106 : BitVec 32 := 0#32
  let v164 : BitVec 1 := Scalar.cmpi .eq c8_i32_105 c0_i32_106
  let c1_i32_107 : BitVec 32 := 1#32
  let v165 : BitVec 32 := Scalar.select v164 c1_i32_107 c8_i32_105
  let v166 : BitVec 32 := Scalar.remsi v163 v165
  let c0_i32_109 : BitVec 32 := 0#32
  let v168 : BitVec 1 := Scalar.cmpi .slt v166 c0_i32_109
  let c0_i32_110 : BitVec 32 := 0#32
  let v169 : BitVec 1 := Scalar.cmpi .slt v165 c0_i32_110
  let v170 : BitVec 1 := Scalar.xori v168 v169
  let c0_i32_108 : BitVec 32 := 0#32
  let v167 : BitVec 1 := Scalar.cmpi .ne v166 c0_i32_108
  let v171 : BitVec 1 := Scalar.andi v170 v167
  let v172 : BitVec 32 := Scalar.addi v166 v165
  let v173 : BitVec 32 := Scalar.select v171 v172 v166
  let c1_i32_140 : BitVec 32 := 1#32
  let v221 : BitVec 32 := Scalar.muli v173 c1_i32_140
  let v222 : BitVec 32 := Scalar.addi c0_i32_141 v221
  v222.toNat
def k0_dev12 (d0 : Dev nD) : Nat :=
  let c0_i32_175 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_146 : BitVec 32 := 3#32
  let v231 : BitVec 32 := Scalar.addi v2 c3_i32_146
  let c8_i32_147 : BitVec 32 := 8#32
  let c0_i32_148 : BitVec 32 := 0#32
  let v232 : BitVec 1 := Scalar.cmpi .eq c8_i32_147 c0_i32_148
  let c1_i32_149 : BitVec 32 := 1#32
  let v233 : BitVec 32 := Scalar.select v232 c1_i32_149 c8_i32_147
  let v234 : BitVec 32 := Scalar.remsi v231 v233
  let c0_i32_151 : BitVec 32 := 0#32
  let v236 : BitVec 1 := Scalar.cmpi .slt v234 c0_i32_151
  let c0_i32_152 : BitVec 32 := 0#32
  let v237 : BitVec 1 := Scalar.cmpi .slt v233 c0_i32_152
  let v238 : BitVec 1 := Scalar.xori v236 v237
  let c0_i32_150 : BitVec 32 := 0#32
  let v235 : BitVec 1 := Scalar.cmpi .ne v234 c0_i32_150
  let v239 : BitVec 1 := Scalar.andi v238 v235
  let v240 : BitVec 32 := Scalar.addi v234 v233
  let v241 : BitVec 32 := Scalar.select v239 v240 v234
  let c1_i32_174 : BitVec 32 := 1#32
  let v279 : BitVec 32 := Scalar.muli v241 c1_i32_174
  let v280 : BitVec 32 := Scalar.addi c0_i32_175 v279
  v280.toNat
def k0_dev13 (d0 : Dev nD) : Nat :=
  let c0_i32_183 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_146 : BitVec 32 := 3#32
  let v231 : BitVec 32 := Scalar.addi v2 c3_i32_146
  let c8_i32_147 : BitVec 32 := 8#32
  let c0_i32_148 : BitVec 32 := 0#32
  let v232 : BitVec 1 := Scalar.cmpi .eq c8_i32_147 c0_i32_148
  let c1_i32_149 : BitVec 32 := 1#32
  let v233 : BitVec 32 := Scalar.select v232 c1_i32_149 c8_i32_147
  let v234 : BitVec 32 := Scalar.remsi v231 v233
  let c0_i32_151 : BitVec 32 := 0#32
  let v236 : BitVec 1 := Scalar.cmpi .slt v234 c0_i32_151
  let c0_i32_152 : BitVec 32 := 0#32
  let v237 : BitVec 1 := Scalar.cmpi .slt v233 c0_i32_152
  let v238 : BitVec 1 := Scalar.xori v236 v237
  let c0_i32_150 : BitVec 32 := 0#32
  let v235 : BitVec 1 := Scalar.cmpi .ne v234 c0_i32_150
  let v239 : BitVec 1 := Scalar.andi v238 v235
  let v240 : BitVec 32 := Scalar.addi v234 v233
  let v241 : BitVec 32 := Scalar.select v239 v240 v234
  let c1_i32_182 : BitVec 32 := 1#32
  let v289 : BitVec 32 := Scalar.muli v241 c1_i32_182
  let v290 : BitVec 32 := Scalar.addi c0_i32_183 v289
  v290.toNat
def k0_dev14 (d0 : Dev nD) : Nat :=
  let c0_i32_217 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_188 : BitVec 32 := 4#32
  let v299 : BitVec 32 := Scalar.addi v2 c4_i32_188
  let c8_i32_189 : BitVec 32 := 8#32
  let c0_i32_190 : BitVec 32 := 0#32
  let v300 : BitVec 1 := Scalar.cmpi .eq c8_i32_189 c0_i32_190
  let c1_i32_191 : BitVec 32 := 1#32
  let v301 : BitVec 32 := Scalar.select v300 c1_i32_191 c8_i32_189
  let v302 : BitVec 32 := Scalar.remsi v299 v301
  let c0_i32_193 : BitVec 32 := 0#32
  let v304 : BitVec 1 := Scalar.cmpi .slt v302 c0_i32_193
  let c0_i32_194 : BitVec 32 := 0#32
  let v305 : BitVec 1 := Scalar.cmpi .slt v301 c0_i32_194
  let v306 : BitVec 1 := Scalar.xori v304 v305
  let c0_i32_192 : BitVec 32 := 0#32
  let v303 : BitVec 1 := Scalar.cmpi .ne v302 c0_i32_192
  let v307 : BitVec 1 := Scalar.andi v306 v303
  let v308 : BitVec 32 := Scalar.addi v302 v301
  let v309 : BitVec 32 := Scalar.select v307 v308 v302
  let c1_i32_216 : BitVec 32 := 1#32
  let v347 : BitVec 32 := Scalar.muli v309 c1_i32_216
  let v348 : BitVec 32 := Scalar.addi c0_i32_217 v347
  v348.toNat
def k0_dev15 (d0 : Dev nD) : Nat :=
  let c0_i32_225 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_188 : BitVec 32 := 4#32
  let v299 : BitVec 32 := Scalar.addi v2 c4_i32_188
  let c8_i32_189 : BitVec 32 := 8#32
  let c0_i32_190 : BitVec 32 := 0#32
  let v300 : BitVec 1 := Scalar.cmpi .eq c8_i32_189 c0_i32_190
  let c1_i32_191 : BitVec 32 := 1#32
  let v301 : BitVec 32 := Scalar.select v300 c1_i32_191 c8_i32_189
  let v302 : BitVec 32 := Scalar.remsi v299 v301
  let c0_i32_193 : BitVec 32 := 0#32
  let v304 : BitVec 1 := Scalar.cmpi .slt v302 c0_i32_193
  let c0_i32_194 : BitVec 32 := 0#32
  let v305 : BitVec 1 := Scalar.cmpi .slt v301 c0_i32_194
  let v306 : BitVec 1 := Scalar.xori v304 v305
  let c0_i32_192 : BitVec 32 := 0#32
  let v303 : BitVec 1 := Scalar.cmpi .ne v302 c0_i32_192
  let v307 : BitVec 1 := Scalar.andi v306 v303
  let v308 : BitVec 32 := Scalar.addi v302 v301
  let v309 : BitVec 32 := Scalar.select v307 v308 v302
  let c1_i32_224 : BitVec 32 := 1#32
  let v357 : BitVec 32 := Scalar.muli v309 c1_i32_224
  let v358 : BitVec 32 := Scalar.addi c0_i32_225 v357
  v358.toNat
def k0_dev16 (d0 : Dev nD) : Nat :=
  let c0_i32_259 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_230 : BitVec 32 := 5#32
  let v367 : BitVec 32 := Scalar.addi v2 c5_i32_230
  let c8_i32_231 : BitVec 32 := 8#32
  let c0_i32_232 : BitVec 32 := 0#32
  let v368 : BitVec 1 := Scalar.cmpi .eq c8_i32_231 c0_i32_232
  let c1_i32_233 : BitVec 32 := 1#32
  let v369 : BitVec 32 := Scalar.select v368 c1_i32_233 c8_i32_231
  let v370 : BitVec 32 := Scalar.remsi v367 v369
  let c0_i32_235 : BitVec 32 := 0#32
  let v372 : BitVec 1 := Scalar.cmpi .slt v370 c0_i32_235
  let c0_i32_236 : BitVec 32 := 0#32
  let v373 : BitVec 1 := Scalar.cmpi .slt v369 c0_i32_236
  let v374 : BitVec 1 := Scalar.xori v372 v373
  let c0_i32_234 : BitVec 32 := 0#32
  let v371 : BitVec 1 := Scalar.cmpi .ne v370 c0_i32_234
  let v375 : BitVec 1 := Scalar.andi v374 v371
  let v376 : BitVec 32 := Scalar.addi v370 v369
  let v377 : BitVec 32 := Scalar.select v375 v376 v370
  let c1_i32_258 : BitVec 32 := 1#32
  let v415 : BitVec 32 := Scalar.muli v377 c1_i32_258
  let v416 : BitVec 32 := Scalar.addi c0_i32_259 v415
  v416.toNat
def k0_dev17 (d0 : Dev nD) : Nat :=
  let c0_i32_267 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_230 : BitVec 32 := 5#32
  let v367 : BitVec 32 := Scalar.addi v2 c5_i32_230
  let c8_i32_231 : BitVec 32 := 8#32
  let c0_i32_232 : BitVec 32 := 0#32
  let v368 : BitVec 1 := Scalar.cmpi .eq c8_i32_231 c0_i32_232
  let c1_i32_233 : BitVec 32 := 1#32
  let v369 : BitVec 32 := Scalar.select v368 c1_i32_233 c8_i32_231
  let v370 : BitVec 32 := Scalar.remsi v367 v369
  let c0_i32_235 : BitVec 32 := 0#32
  let v372 : BitVec 1 := Scalar.cmpi .slt v370 c0_i32_235
  let c0_i32_236 : BitVec 32 := 0#32
  let v373 : BitVec 1 := Scalar.cmpi .slt v369 c0_i32_236
  let v374 : BitVec 1 := Scalar.xori v372 v373
  let c0_i32_234 : BitVec 32 := 0#32
  let v371 : BitVec 1 := Scalar.cmpi .ne v370 c0_i32_234
  let v375 : BitVec 1 := Scalar.andi v374 v371
  let v376 : BitVec 32 := Scalar.addi v370 v369
  let v377 : BitVec 32 := Scalar.select v375 v376 v370
  let c1_i32_266 : BitVec 32 := 1#32
  let v425 : BitVec 32 := Scalar.muli v377 c1_i32_266
  let v426 : BitVec 32 := Scalar.addi c0_i32_267 v425
  v426.toNat
def k0_dev18 (d0 : Dev nD) : Nat :=
  let c0_i32_301 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_272 : BitVec 32 := 6#32
  let v435 : BitVec 32 := Scalar.addi v2 c6_i32_272
  let c8_i32_273 : BitVec 32 := 8#32
  let c0_i32_274 : BitVec 32 := 0#32
  let v436 : BitVec 1 := Scalar.cmpi .eq c8_i32_273 c0_i32_274
  let c1_i32_275 : BitVec 32 := 1#32
  let v437 : BitVec 32 := Scalar.select v436 c1_i32_275 c8_i32_273
  let v438 : BitVec 32 := Scalar.remsi v435 v437
  let c0_i32_277 : BitVec 32 := 0#32
  let v440 : BitVec 1 := Scalar.cmpi .slt v438 c0_i32_277
  let c0_i32_278 : BitVec 32 := 0#32
  let v441 : BitVec 1 := Scalar.cmpi .slt v437 c0_i32_278
  let v442 : BitVec 1 := Scalar.xori v440 v441
  let c0_i32_276 : BitVec 32 := 0#32
  let v439 : BitVec 1 := Scalar.cmpi .ne v438 c0_i32_276
  let v443 : BitVec 1 := Scalar.andi v442 v439
  let v444 : BitVec 32 := Scalar.addi v438 v437
  let v445 : BitVec 32 := Scalar.select v443 v444 v438
  let c1_i32_300 : BitVec 32 := 1#32
  let v483 : BitVec 32 := Scalar.muli v445 c1_i32_300
  let v484 : BitVec 32 := Scalar.addi c0_i32_301 v483
  v484.toNat
def k0_dev19 (d0 : Dev nD) : Nat :=
  let c0_i32_309 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_272 : BitVec 32 := 6#32
  let v435 : BitVec 32 := Scalar.addi v2 c6_i32_272
  let c8_i32_273 : BitVec 32 := 8#32
  let c0_i32_274 : BitVec 32 := 0#32
  let v436 : BitVec 1 := Scalar.cmpi .eq c8_i32_273 c0_i32_274
  let c1_i32_275 : BitVec 32 := 1#32
  let v437 : BitVec 32 := Scalar.select v436 c1_i32_275 c8_i32_273
  let v438 : BitVec 32 := Scalar.remsi v435 v437
  let c0_i32_277 : BitVec 32 := 0#32
  let v440 : BitVec 1 := Scalar.cmpi .slt v438 c0_i32_277
  let c0_i32_278 : BitVec 32 := 0#32
  let v441 : BitVec 1 := Scalar.cmpi .slt v437 c0_i32_278
  let v442 : BitVec 1 := Scalar.xori v440 v441
  let c0_i32_276 : BitVec 32 := 0#32
  let v439 : BitVec 1 := Scalar.cmpi .ne v438 c0_i32_276
  let v443 : BitVec 1 := Scalar.andi v442 v439
  let v444 : BitVec 32 := Scalar.addi v438 v437
  let v445 : BitVec 32 := Scalar.select v443 v444 v438
  let c1_i32_308 : BitVec 32 := 1#32
  let v493 : BitVec 32 := Scalar.muli v445 c1_i32_308
  let v494 : BitVec 32 := Scalar.addi c0_i32_309 v493
  v494.toNat
def k0_dev20 (d0 : Dev nD) : Nat :=
  let c0_i32_343 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_314 : BitVec 32 := 7#32
  let v503 : BitVec 32 := Scalar.addi v2 c7_i32_314
  let c8_i32_315 : BitVec 32 := 8#32
  let c0_i32_316 : BitVec 32 := 0#32
  let v504 : BitVec 1 := Scalar.cmpi .eq c8_i32_315 c0_i32_316
  let c1_i32_317 : BitVec 32 := 1#32
  let v505 : BitVec 32 := Scalar.select v504 c1_i32_317 c8_i32_315
  let v506 : BitVec 32 := Scalar.remsi v503 v505
  let c0_i32_319 : BitVec 32 := 0#32
  let v508 : BitVec 1 := Scalar.cmpi .slt v506 c0_i32_319
  let c0_i32_320 : BitVec 32 := 0#32
  let v509 : BitVec 1 := Scalar.cmpi .slt v505 c0_i32_320
  let v510 : BitVec 1 := Scalar.xori v508 v509
  let c0_i32_318 : BitVec 32 := 0#32
  let v507 : BitVec 1 := Scalar.cmpi .ne v506 c0_i32_318
  let v511 : BitVec 1 := Scalar.andi v510 v507
  let v512 : BitVec 32 := Scalar.addi v506 v505
  let v513 : BitVec 32 := Scalar.select v511 v512 v506
  let c1_i32_342 : BitVec 32 := 1#32
  let v551 : BitVec 32 := Scalar.muli v513 c1_i32_342
  let v552 : BitVec 32 := Scalar.addi c0_i32_343 v551
  v552.toNat
def k0_dev21 (d0 : Dev nD) : Nat :=
  let c0_i32_351 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_314 : BitVec 32 := 7#32
  let v503 : BitVec 32 := Scalar.addi v2 c7_i32_314
  let c8_i32_315 : BitVec 32 := 8#32
  let c0_i32_316 : BitVec 32 := 0#32
  let v504 : BitVec 1 := Scalar.cmpi .eq c8_i32_315 c0_i32_316
  let c1_i32_317 : BitVec 32 := 1#32
  let v505 : BitVec 32 := Scalar.select v504 c1_i32_317 c8_i32_315
  let v506 : BitVec 32 := Scalar.remsi v503 v505
  let c0_i32_319 : BitVec 32 := 0#32
  let v508 : BitVec 1 := Scalar.cmpi .slt v506 c0_i32_319
  let c0_i32_320 : BitVec 32 := 0#32
  let v509 : BitVec 1 := Scalar.cmpi .slt v505 c0_i32_320
  let v510 : BitVec 1 := Scalar.xori v508 v509
  let c0_i32_318 : BitVec 32 := 0#32
  let v507 : BitVec 1 := Scalar.cmpi .ne v506 c0_i32_318
  let v511 : BitVec 1 := Scalar.andi v510 v507
  let v512 : BitVec 32 := Scalar.addi v506 v505
  let v513 : BitVec 32 := Scalar.select v511 v512 v506
  let c1_i32_350 : BitVec 32 := 1#32
  let v561 : BitVec 32 := Scalar.muli v513 c1_i32_350
  let v562 : BitVec 32 := Scalar.addi c0_i32_351 v561
  v562.toNat
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_356 : BitVec 32 := 512#32
  let v571 : BitVec 32 := Scalar.muli v2 c512_i32_356
  let v572 : Index := Scalar.indexCast v571
  let c0_357 : Index := 0#32
  ![v572.toNat, 0]
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_358 : BitVec 32 := 512#32
  let v575 : BitVec 32 := Scalar.muli v2 c512_i32_358
  let v576 : Index := Scalar.indexCast v575
  let c0_359 : Index := 0#32
  ![v576.toNat, 0]
def k0_off7 (d0 : Dev nD) (c1_i32_364 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_363 : BitVec 32 := 8#32
  let v581 : BitVec 32 := Scalar.addi v2 c8_i32_363
  let v582 : BitVec 32 := Scalar.subi v581 c1_i32_364
  let c8_i32_365 : BitVec 32 := 8#32
  let c0_i32_366 : BitVec 32 := 0#32
  let v583 : BitVec 1 := Scalar.cmpi .eq c8_i32_365 c0_i32_366
  let c1_i32_367 : BitVec 32 := 1#32
  let v584 : BitVec 32 := Scalar.select v583 c1_i32_367 c8_i32_365
  let v585 : BitVec 32 := Scalar.remsi v582 v584
  let c0_i32_369 : BitVec 32 := 0#32
  let v587 : BitVec 1 := Scalar.cmpi .slt v585 c0_i32_369
  let c0_i32_370 : BitVec 32 := 0#32
  let v588 : BitVec 1 := Scalar.cmpi .slt v584 c0_i32_370
  let v589 : BitVec 1 := Scalar.xori v587 v588
  let c0_i32_368 : BitVec 32 := 0#32
  let v586 : BitVec 1 := Scalar.cmpi .ne v585 c0_i32_368
  let v590 : BitVec 1 := Scalar.andi v589 v586
  let v591 : BitVec 32 := Scalar.addi v585 v584
  let v592 : BitVec 32 := Scalar.select v590 v591 v585
  ![v592.toNat]
def k0_off8 (d0 : Dev nD) (c1_i32_364 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_363 : BitVec 32 := 8#32
  let v581 : BitVec 32 := Scalar.addi v2 c8_i32_363
  let v582 : BitVec 32 := Scalar.subi v581 c1_i32_364
  let c8_i32_365 : BitVec 32 := 8#32
  let c0_i32_366 : BitVec 32 := 0#32
  let v583 : BitVec 1 := Scalar.cmpi .eq c8_i32_365 c0_i32_366
  let c1_i32_367 : BitVec 32 := 1#32
  let v584 : BitVec 32 := Scalar.select v583 c1_i32_367 c8_i32_365
  let v585 : BitVec 32 := Scalar.remsi v582 v584
  let c0_i32_369 : BitVec 32 := 0#32
  let v587 : BitVec 1 := Scalar.cmpi .slt v585 c0_i32_369
  let c0_i32_370 : BitVec 32 := 0#32
  let v588 : BitVec 1 := Scalar.cmpi .slt v584 c0_i32_370
  let v589 : BitVec 1 := Scalar.xori v587 v588
  let c0_i32_368 : BitVec 32 := 0#32
  let v586 : BitVec 1 := Scalar.cmpi .ne v585 c0_i32_368
  let v590 : BitVec 1 := Scalar.andi v589 v586
  let v591 : BitVec 32 := Scalar.addi v585 v584
  let v592 : BitVec 32 := Scalar.select v590 v591 v585
  let c0_i32_375 : BitVec 32 := 0#32
  let c0_i32_376 : BitVec 32 := 0#32
  ![v592.toNat, 0, 0]
def k0_off9 (d0 : Dev nD) (c1_i32_364 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_363 : BitVec 32 := 8#32
  let v581 : BitVec 32 := Scalar.addi v2 c8_i32_363
  let v582 : BitVec 32 := Scalar.subi v581 c1_i32_364
  let c8_i32_365 : BitVec 32 := 8#32
  let c0_i32_366 : BitVec 32 := 0#32
  let v583 : BitVec 1 := Scalar.cmpi .eq c8_i32_365 c0_i32_366
  let c1_i32_367 : BitVec 32 := 1#32
  let v584 : BitVec 32 := Scalar.select v583 c1_i32_367 c8_i32_365
  let v585 : BitVec 32 := Scalar.remsi v582 v584
  let c0_i32_369 : BitVec 32 := 0#32
  let v587 : BitVec 1 := Scalar.cmpi .slt v585 c0_i32_369
  let c0_i32_370 : BitVec 32 := 0#32
  let v588 : BitVec 1 := Scalar.cmpi .slt v584 c0_i32_370
  let v589 : BitVec 1 := Scalar.xori v587 v588
  let c0_i32_368 : BitVec 32 := 0#32
  let v586 : BitVec 1 := Scalar.cmpi .ne v585 c0_i32_368
  let v590 : BitVec 1 := Scalar.andi v589 v586
  let v591 : BitVec 32 := Scalar.addi v585 v584
  let v592 : BitVec 32 := Scalar.select v590 v591 v585
  let c0_i32_383 : BitVec 32 := 0#32
  let c0_i32_384 : BitVec 32 := 0#32
  ![v592.toNat, 0, 0]
def k0_off10 (d0 : Dev nD) (c1_i32_364 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_363 : BitVec 32 := 8#32
  let v581 : BitVec 32 := Scalar.addi v2 c8_i32_363
  let v582 : BitVec 32 := Scalar.subi v581 c1_i32_364
  let c8_i32_365 : BitVec 32 := 8#32
  let c0_i32_366 : BitVec 32 := 0#32
  let v583 : BitVec 1 := Scalar.cmpi .eq c8_i32_365 c0_i32_366
  let c1_i32_367 : BitVec 32 := 1#32
  let v584 : BitVec 32 := Scalar.select v583 c1_i32_367 c8_i32_365
  let v585 : BitVec 32 := Scalar.remsi v582 v584
  let c0_i32_369 : BitVec 32 := 0#32
  let v587 : BitVec 1 := Scalar.cmpi .slt v585 c0_i32_369
  let c0_i32_370 : BitVec 32 := 0#32
  let v588 : BitVec 1 := Scalar.cmpi .slt v584 c0_i32_370
  let v589 : BitVec 1 := Scalar.xori v587 v588
  let c0_i32_368 : BitVec 32 := 0#32
  let v586 : BitVec 1 := Scalar.cmpi .ne v585 c0_i32_368
  let v590 : BitVec 1 := Scalar.andi v589 v586
  let v591 : BitVec 32 := Scalar.addi v585 v584
  let v592 : BitVec 32 := Scalar.select v590 v591 v585
  let v609 : Index := Scalar.indexCast v592
  let c0_387 : Index := 0#32
  let c0_388 : Index := 0#32
  ![v609.toNat, 0, 0]
def k0_off11 (d0 : Dev nD) (c1_i32_364 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_363 : BitVec 32 := 8#32
  let v581 : BitVec 32 := Scalar.addi v2 c8_i32_363
  let v582 : BitVec 32 := Scalar.subi v581 c1_i32_364
  let c8_i32_365 : BitVec 32 := 8#32
  let c0_i32_366 : BitVec 32 := 0#32
  let v583 : BitVec 1 := Scalar.cmpi .eq c8_i32_365 c0_i32_366
  let c1_i32_367 : BitVec 32 := 1#32
  let v584 : BitVec 32 := Scalar.select v583 c1_i32_367 c8_i32_365
  let v585 : BitVec 32 := Scalar.remsi v582 v584
  let c0_i32_369 : BitVec 32 := 0#32
  let v587 : BitVec 1 := Scalar.cmpi .slt v585 c0_i32_369
  let c0_i32_370 : BitVec 32 := 0#32
  let v588 : BitVec 1 := Scalar.cmpi .slt v584 c0_i32_370
  let v589 : BitVec 1 := Scalar.xori v587 v588
  let c0_i32_368 : BitVec 32 := 0#32
  let v586 : BitVec 1 := Scalar.cmpi .ne v585 c0_i32_368
  let v590 : BitVec 1 := Scalar.andi v589 v586
  let v591 : BitVec 32 := Scalar.addi v585 v584
  let v592 : BitVec 32 := Scalar.select v590 v591 v585
  let v614 : Index := Scalar.indexCast v592
  let c0_391 : Index := 0#32
  let c0_392 : Index := 0#32
  ![v614.toNat, 0, 0]
def k0_off12 (d0 : Dev nD) (c1_i32_364 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_363 : BitVec 32 := 8#32
  let v581 : BitVec 32 := Scalar.addi v2 c8_i32_363
  let v582 : BitVec 32 := Scalar.subi v581 c1_i32_364
  let c8_i32_365 : BitVec 32 := 8#32
  let c0_i32_366 : BitVec 32 := 0#32
  let v583 : BitVec 1 := Scalar.cmpi .eq c8_i32_365 c0_i32_366
  let c1_i32_367 : BitVec 32 := 1#32
  let v584 : BitVec 32 := Scalar.select v583 c1_i32_367 c8_i32_365
  let v585 : BitVec 32 := Scalar.remsi v582 v584
  let c0_i32_369 : BitVec 32 := 0#32
  let v587 : BitVec 1 := Scalar.cmpi .slt v585 c0_i32_369
  let c0_i32_370 : BitVec 32 := 0#32
  let v588 : BitVec 1 := Scalar.cmpi .slt v584 c0_i32_370
  let v589 : BitVec 1 := Scalar.xori v587 v588
  let c0_i32_368 : BitVec 32 := 0#32
  let v586 : BitVec 1 := Scalar.cmpi .ne v585 c0_i32_368
  let v590 : BitVec 1 := Scalar.andi v589 v586
  let v591 : BitVec 32 := Scalar.addi v585 v584
  let v592 : BitVec 32 := Scalar.select v590 v591 v585
  let c512_i32_393 : BitVec 32 := 512#32
  let v620 : BitVec 32 := Scalar.muli v592 c512_i32_393
  let v621 : Index := Scalar.indexCast v620
  let c0_394 : Index := 0#32
  ![v621.toNat, 0]
abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S8x512x8x512 : Shape := ⟨4, ![8, 512, 8, 512]⟩
abbrev S_ : Shape := ⟨0, ![]⟩
abbrev S8x8 : Shape := ⟨2, ![8, 8]⟩
abbrev S8x1x8x1 : Shape := ⟨4, ![8, 1, 8, 1]⟩

abbrev nBuf : Space → Nat
  | .hbm => 37
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S8x512x8x512, .f32⟩
  | .hbm, ⟨3, _⟩ => ⟨S8x512x8x512, .f32⟩
  | .hbm, ⟨4, _⟩ => ⟨S_, .f32⟩
  | .hbm, ⟨5, _⟩ => ⟨S8x8, .f32⟩
  | .hbm, ⟨6, _⟩ => ⟨S8x1x8x1, .f32⟩
  | .hbm, ⟨7, _⟩ => ⟨S_, .f32⟩
  | .hbm, ⟨8, _⟩ => ⟨S8x1x8x1, .f32⟩
  | .hbm, ⟨9, _⟩ => ⟨S8x1x8x1, .f32⟩
  | .hbm, ⟨10, _⟩ => ⟨S_, .f32⟩
  | .hbm, ⟨11, _⟩ => ⟨S8x1x8x1, .f32⟩
  | .hbm, ⟨12, _⟩ => ⟨S8x1x8x1, .f32⟩
  | .hbm, ⟨13, _⟩ => ⟨S8x512x8x512, .f32⟩
  | .hbm, ⟨14, _⟩ => ⟨S8x512x8x512, .f32⟩
  | .hbm, ⟨15, _⟩ => ⟨S8x512x8x512, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8x512x8x512, .f32⟩
  | .hbm, ⟨20, _⟩ => ⟨S8x512x8x512, .f32⟩
  | .hbm, ⟨21, _⟩ => ⟨S_, .f32⟩
  | .hbm, ⟨22, _⟩ => ⟨S8x512x8x512, .f32⟩
  | .hbm, ⟨23, _⟩ => ⟨S8x512x8x512, .f32⟩
  | .hbm, ⟨24, _⟩ => ⟨S8x512x8x512, .f32⟩
  | .hbm, ⟨25, _⟩ => ⟨S8x512x8x512, .f32⟩
  | .hbm, ⟨26, _⟩ => ⟨S8x8, .i32⟩
  | .hbm, ⟨27, _⟩ => ⟨S8x8, .i32⟩
  | .hbm, ⟨28, _⟩ => ⟨S_, .i32⟩
  | .hbm, ⟨29, _⟩ => ⟨S8x8, .i32⟩
  | .hbm, ⟨30, _⟩ => ⟨S8x8, .i32⟩
  | .hbm, ⟨31, _⟩ => ⟨S8x8, .i1⟩
  | .hbm, ⟨32, _⟩ => ⟨S8x1x8x1, .i1⟩
  | .hbm, ⟨33, _⟩ => ⟨S8x512x8x512, .i1⟩
  | .hbm, ⟨34, _⟩ => ⟨S8x512x8x512, .f32⟩
  | .hbm, ⟨35, _⟩ => ⟨S4096x4096, .f32⟩
  | .hbm, ⟨36, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_cst_3 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call2_v0 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩

abbrev nD : Nat := 1
abbrev τ : Topo := Topo.v7x

variable {F : FTy → Type} [FloatOps F]
-- ==== Proof.KernelIdealStages.lean ====
/-
# The kernel as stages

Every device runs the same straight line: it signals its seven peers, quantises and sends one block of rows to each,
multiplies the block that stays, takes the seven arriving blocks and drains its sends. The printed program writes these
stages out seven times each; here each is written once, at an index, and the printed body is shown to be their sequence.
-/
module

public import proofs.«01_k».proof.Proof.Gen.KernelIdeal
public import proofs.«01_k».proof.Proof.Gen.KernelIdeal.Skeleton
public import proofs.«01_k».proof.Proof.Gen.KernelIdeal.Points
public import Idealize.ShloMosaic.Lib.Decide
public import Idealize.ShloMosaic.Lib.Pipeline.Regions

@[expose] public section

noncomputable section

namespace Cert.KernelIdealProof

open Cert.KernelIdeal Cert.KernelIdeal.Gen
open Idealize.ShloMosaic Idealize.ShloMosaic.TcCoe
open Idealize.SL.Sem

variable {F : FTy → Type} [FloatOps F]

/-! ## Who talks to whom -/

set_option backward.proofsInPublic true in
/-- The device that step `j` of device `c` signals and sends to. -/
def peer (c : Dev nD) (j : Fin 7) : Dev nD := ⟨(c.val + j.val + 1) % 8, Nat.mod_lt _ (by decide)⟩

set_option backward.proofsInPublic true in
/-- The device whose block step `k` of device `c` takes. -/
def src (c : Dev nD) (k : Fin 7) : Dev nD := ⟨(c.val + 8 - (k.val + 1)) % 8, Nat.mod_lt _ (by decide)⟩

theorem peer_ne : ∀ (c : Dev nD) (j : Fin 7), peer c j ≠ c := by decide +kernel
theorem src_ne : ∀ (c : Dev nD) (k : Fin 7), src c k ≠ c := by decide +kernel
theorem peer_src : ∀ (c : Dev nD) (k : Fin 7), peer (src c k) k = c := by decide +kernel
theorem src_peer : ∀ (c : Dev nD) (k : Fin 7), src (peer c k) k = c := by decide +kernel

/-- The word `1 + j`, as the program writes it at step `j`. -/
abbrev stepWord (j : Fin 7) : BitVec 32 := BitVec.ofNat 32 (1 + j.val)

/-- The device signalled at step `j`, as the program computes it. -/
def devSig (c : Dev nD) : Fin 7 → Dev nD :=
  ![⟨k0_dev1 c, k0_dev1_lt c⟩, ⟨k0_dev2 c, k0_dev2_lt c⟩, ⟨k0_dev3 c, k0_dev3_lt c⟩, ⟨k0_dev4 c, k0_dev4_lt c⟩,
    ⟨k0_dev5 c, k0_dev5_lt c⟩, ⟨k0_dev6 c, k0_dev6_lt c⟩, ⟨k0_dev7 c, k0_dev7_lt c⟩]
/-- The device the scales of step `j` go to, as the program computes it. -/
def devScl (c : Dev nD) : Fin 7 → Dev nD :=
  ![⟨k0_dev8 c, k0_dev8_lt c⟩, ⟨k0_dev10 c, k0_dev10_lt c⟩, ⟨k0_dev12 c, k0_dev12_lt c⟩, ⟨k0_dev14 c, k0_dev14_lt c⟩,
    ⟨k0_dev16 c, k0_dev16_lt c⟩, ⟨k0_dev18 c, k0_dev18_lt c⟩, ⟨k0_dev20 c, k0_dev20_lt c⟩]
/-- The device the block of step `j` goes to, as the program computes it. -/
def devBlk (c : Dev nD) : Fin 7 → Dev nD :=
  ![⟨k0_dev9 c, k0_dev9_lt c⟩, ⟨k0_dev11 c, k0_dev11_lt c⟩, ⟨k0_dev13 c, k0_dev13_lt c⟩, ⟨k0_dev15 c, k0_dev15_lt c⟩,
    ⟨k0_dev17 c, k0_dev17_lt c⟩, ⟨k0_dev19 c, k0_dev19_lt c⟩, ⟨k0_dev21 c, k0_dev21_lt c⟩]

theorem devSig_eq : ∀ (c : Dev nD) (j : Fin 7), devSig c j = peer c j := by decide +kernel
theorem devScl_eq : ∀ (c : Dev nD) (j : Fin 7), devScl c j = peer c j := by decide +kernel
theorem devBlk_eq : ∀ (c : Dev nD) (j : Fin 7), devBlk c j = peer c j := by decide +kernel

theorem off1_eq : ∀ (c : Dev nD) (j : Fin 7), k0_off1 c (stepWord j) = ![512 * (peer c j).val, 0] := by decide +kernel
theorem off7_eq : ∀ (c : Dev nD) (k : Fin 7), k0_off7 c (stepWord k) = ![(src c k).val] := by decide +kernel
theorem off8_eq : ∀ (c : Dev nD) (k : Fin 7), k0_off8 c (stepWord k) = ![(src c k).val, 0, 0] := by decide +kernel
theorem off9_eq : ∀ (c : Dev nD) (k : Fin 7), k0_off9 c (stepWord k) = ![(src c k).val, 0, 0] := by decide +kernel
theorem off10_eq : ∀ (c : Dev nD) (k : Fin 7), k0_off10 c (stepWord k) = ![(src c k).val, 0, 0] := by decide +kernel
theorem off11_eq : ∀ (c : Dev nD) (k : Fin 7), k0_off11 c (stepWord k) = ![(src c k).val, 0, 0] := by decide +kernel
theorem off12_eq : ∀ (c : Dev nD) (k : Fin 7), k0_off12 c (stepWord k) = ![512 * (src c k).val, 0] := by decide +kernel

/-! ## Rectangles and slots -/

theorem inb_snd : ∀ (j : Fin 7) (a : Fin 3), (![j.val, 0, 0] : Fin 3 → ℕ) a + S1x512x512.size a ≤ S7x512x512.size a := by decide
theorem inb_ssc : ∀ (j : Fin 7) (a : Fin 3), (![j.val, 0, 0] : Fin 3 → ℕ) a + S1x8x128.size a ≤ S7x8x128.size a := by decide
theorem inb_rcv : ∀ (i : Dev nD) (a : Fin 3), (![i.val, 0, 0] : Fin 3 → ℕ) a + S1x512x512.size a ≤ S8x512x512.size a := by decide
theorem inb_rsc : ∀ (i : Dev nD) (a : Fin 3), (![i.val, 0, 0] : Fin 3 → ℕ) a + S1x8x128.size a ≤ S8x8x128.size a := by decide
theorem inb_one : ∀ (i : Dev nD) (a : Fin 3), (![i.val, 0, 0] : Fin 3 → ℕ) a + S1x1x1.size a ≤ S8x8x128.size a := by decide
theorem inb_sem : ∀ (i : Fin 8) (a : Fin 1), (![i.val] : Fin 1 → ℕ) a + S1.size a ≤ S8.size a := by decide
theorem inb_x : ∀ (i : Dev nD) (a : Fin 2), (![512 * i.val, 0] : Fin 2 → ℕ) a + S512x512.size a ≤ S4096x512.size a := by decide
theorem inb_w : ∀ (i : Dev nD) (a : Fin 2), (![512 * i.val, 0] : Fin 2 → ℕ) a + S512x2048.size a ≤ S4096x2048.size a := by decide

abbrev rSnd (j : Fin 7) : Rect S7x512x512 := Rect.unit (s := S7x512x512) ![j.val, 0, 0] S1x512x512.size (inb_snd j)
abbrev rSsc (j : Fin 7) : Rect S7x8x128 := Rect.unit (s := S7x8x128) ![j.val, 0, 0] S1x8x128.size (inb_ssc j)
abbrev rRcv (i : Dev nD) : Rect S8x512x512 := Rect.unit (s := S8x512x512) ![i.val, 0, 0] S1x512x512.size (inb_rcv i)
abbrev rRsc (i : Dev nD) : Rect S8x8x128 := Rect.unit (s := S8x8x128) ![i.val, 0, 0] S1x8x128.size (inb_rsc i)
abbrev rOne (i : Dev nD) : Rect S8x8x128 := Rect.unit (s := S8x8x128) ![i.val, 0, 0] S1x1x1.size (inb_one i)
abbrev rSem (i : Fin 8) : Rect S8 := Rect.unit (s := S8) ![i.val] S1.size (inb_sem i)
abbrev rX (i : Dev nD) : Rect S4096x512 := Rect.unit (s := S4096x512) ![512 * i.val, 0] S512x512.size (inb_x i)
abbrev rW (i : Dev nD) : Rect S4096x2048 := Rect.unit (s := S4096x2048) ![512 * i.val, 0] S512x2048.size (inb_w i)
abbrev rO : Rect S512x2048 := Rect.unit (s := S512x2048) ![0, 0] S512x2048.size inb_S512x2048_S512x2048_0_0

theorem packed_snd : ∀ j : Fin 7, (rSnd j).PackedRows (EltTy.packing .i8) := by decide
theorem words_snd : ∀ j : Fin 7, (rSnd j).WholeWords (EltTy.packing .i8) := by decide
theorem words_rcv : ∀ i : Dev nD, (rRcv i).WholeWords (EltTy.packing .i8) := by decide

abbrev mX : Memref sig .tc .vmem S4096x512 .f32 := Memref.whole cc0_stg0_0
abbrev mW : Memref sig .tc .vmem S4096x2048 .f32 := Memref.whole cc0_stg1_0
abbrev mO : Memref sig .tc .vmem S512x2048 .f32 := Memref.whole cc0_stg2_0
abbrev mSnd : Memref sig .tc .vmem S7x512x512 .i8 := Memref.whole cc0_scratch0
abbrev mRcv : Memref sig .tc .vmem S8x512x512 .i8 := Memref.whole cc0_scratch1
abbrev mSsc : Memref sig .tc .vmem S7x8x128 .f32 := Memref.whole cc0_scratch2
abbrev mRsc : Memref sig .tc .vmem S8x8x128 .f32 := Memref.whole cc0_scratch3

/-- Slot `j` of the blocks to send. -/
abbrev snd (j : Fin 7) : Memref sig .tc .vmem S512x512 .i8 :=
  (mSnd.slice (rSnd j) (fun _ => rfl)).squeeze S512x512 squeezes_S1x512x512_S512x512
/-- Slot `j` of the scales to send. -/
abbrev ssc (j : Fin 7) : Memref sig .tc .vmem S8x128 .f32 :=
  (mSsc.slice (rSsc j) (fun _ => rfl)).squeeze S8x128 squeezes_S1x8x128_S8x128
/-- The slot device `i`'s block lands in. -/
abbrev rcv (i : Dev nD) : Memref sig .tc .vmem S512x512 .i8 :=
  (mRcv.slice (rRcv i) (fun _ => rfl)).squeeze S512x512 squeezes_S1x512x512_S512x512
/-- The slot device `i`'s scales land in. -/
abbrev rsc (i : Dev nD) : Memref sig .tc .vmem S8x128 .f32 :=
  (mRsc.slice (rRsc i) (fun _ => rfl)).squeeze S8x128 squeezes_S1x8x128_S8x128

/-- One semaphore of an array of eight. -/
abbrev semAt (a : DmaSems sig S8) (i : Fin 8) : DmaSem sig := ((a.slice (rSem i)).squeeze S_ squeezes_S1_S_).sem
/-- The runtime's barrier semaphore. -/
abbrev barS : Sem sig := (SemArray.scalar (sig.barrier 0 rfl) : Sems sig S_).sem

/-! ## The stages

Each stage first at the offsets the program computes, then at the offsets they equal. -/

abbrev PE : Type → Type 1 := Prog (TpuEff nD τ sig (Elt F) Λ₀ .tc)

/-- The stages of a list of steps, one after the other. -/
def seqL (f : Fin 7 → Prog (TpuEff nD τ sig (Elt F) Λ₀ .tc) PUnit) : List (Fin 7) → Prog (TpuEff nD τ sig (Elt F) Λ₀ .tc) PUnit
  | [] => pure ⟨⟩
  | j :: js => f j >>= fun _ => seqL f js

/-- Signal one peer. -/
def sigP (d : Dev nD) : Prog (TpuEff nD τ sig (Elt F) Λ₀ .tc) PUnit := semSignalWord d barS 1#32

/-- Wait for the seven peers. -/
def barP : Prog (TpuEff nD τ sig (Elt F) Λ₀ .tc) PUnit := semWaitWord barS 7#32

/-- Quantise a block of rows and leave it and its scale in the two send slots of step `j`. -/
def quantP (j : Fin 7) (o1 : Fin 2 → ℕ) (h1 : ∀ a, o1 a + S512x512.size a ≤ S4096x512.size a) :
    Prog (TpuEff nD τ sig (Elt F) Λ₀ .tc) PUnit := do
  let v : Vec F S512x512 .f32 ← Prog.lift (.load mX (Rect.unit (s := S4096x512) o1 S512x512.size h1).toLoadRect (View.loadsAt_vmem h_S512x512))
  let _b : Vec F S1x512x512 .i8 ← Prog.lift (.load mSnd (rSnd j).toLoadRect (View.loadsAt_vmem h_S1x512x512))
  Prog.lift (.store mSnd (rSnd j) (k0_pay3 v) Finset.univ (View.stores_vmem h_S1x512x512 ((Memref.isWhole_whole _).storeExact_slice rfl _ (packed_snd j)) (fun _ => rfl)) (.inl rfl))
  let _s : Vec F S1x8x128 .f32 ← Prog.lift (.load mSsc (rSsc j).toLoadRect (View.loadsAt_vmem h_S1x8x128))
  Prog.lift (.store mSsc (rSsc j) (k0_pay4 v) Finset.univ (View.stores_vmem_bits_univ h_S1x8x128 rfl) (.inl rfl))
  pure ⟨⟩

/-- Send the scales and the block of step `j`. -/
def sendP (j : Fin 7) (p p' : Dev nD) (o2 : Fin 1 → ℕ) (h2 : ∀ a, o2 a + S1.size a ≤ S8.size a)
    (o3 : Fin 3 → ℕ) (h3 : ∀ a, o3 a + S1x8x128.size a ≤ S8x8x128.size a)
    (o4 : Fin 3 → ℕ) (h4 : ∀ a, o4 a + S1x512x512.size a ≤ S8x512x512.size a)
    (hw4 : (Rect.unit (s := S8x512x512) o4 S1x512x512.size h4).WholeWords (EltTy.packing .i8)) :
    Prog (TpuEff nD τ sig (Elt F) Λ₀ .tc) PUnit := do
  Prog.lift (.enqueueDma (ssc j) (.remote (Dev.tc p) ((mRsc.slice (Rect.unit (s := S8x8x128) o3 S1x8x128.size h3) (fun _ => rfl)).squeeze S8x128 squeezes_S1x8x128_S8x128) (.dma (semAt cc0_scratch6 j.castSucc)))
    (.dma (((cc0_scratch7 : DmaSems sig S8).slice (Rect.unit (s := S8) o2 S1.size h2)).squeeze S_ squeezes_S1_S_).sem) ((View.wordExact_bits rfl).reshape _ _) ((View.wordExact_bits rfl).reshape _ _) ⟨⟨rfl, Or.inl rfl⟩, trivial⟩)
  Prog.lift (.enqueueDma (snd j) (.remote (Dev.tc p') ((mRcv.slice (Rect.unit (s := S8x512x512) o4 S1x512x512.size h4) (fun _ => rfl)).squeeze S512x512 squeezes_S1x512x512_S512x512) (.dma (semAt cc0_scratch4 j.castSucc)))
    (.dma (((cc0_scratch5 : DmaSems sig S8).slice (Rect.unit (s := S8) o2 S1.size h2)).squeeze S_ squeezes_S1_S_).sem) (((Memref.isWhole_whole _).wordExact_slice rfl _ (words_snd j)).reshape _ _) (((Memref.isWhole_whole _).wordExact_slice rfl _ hw4).reshape _ _) ⟨⟨rfl, Or.inl rfl⟩, trivial⟩)
  pure ⟨⟩

/-- Multiply the block that stays. -/
def ownP (o5 : Fin 2 → ℕ) (h5 : ∀ a, o5 a + S512x512.size a ≤ S4096x512.size a)
    (o6 : Fin 2 → ℕ) (h6 : ∀ a, o6 a + S512x2048.size a ≤ S4096x2048.size a) :
    Prog (TpuEff nD τ sig (Elt F) Λ₀ .tc) PUnit := do
  let v : Vec F S512x512 .f32 ← Prog.lift (.load mX (Rect.unit (s := S4096x512) o5 S512x512.size h5).toLoadRect (View.loadsAt_vmem h_S512x512))
  let w : Vec F S512x2048 .f32 ← Prog.lift (.load mW (Rect.unit (s := S4096x2048) o6 S512x2048.size h6).toLoadRect (View.loadsAt_vmem h_S512x2048))
  let _o : Vec F S512x2048 .f32 ← Prog.lift (.load mO rO.toLoadRect (View.loadsAt_vmem h_S512x2048))
  Prog.lift (.store mO rO (k0_pay31 v w) Finset.univ (View.stores_vmem_bits_univ h_S512x2048 rfl) (.inl rfl))
  pure ⟨⟩

/-- Take one arriving block: wait for its scales and for it, multiply and add. -/
def recvP (o7 : Fin 1 → ℕ) (h7 : ∀ a, o7 a + S1.size a ≤ S8.size a)
    (o8 : Fin 3 → ℕ) (h8 : ∀ a, o8 a + S1x8x128.size a ≤ S8x8x128.size a)
    (o9 : Fin 3 → ℕ) (h9 : ∀ a, o9 a + S1x512x512.size a ≤ S8x512x512.size a)
    (hw9 : (Rect.unit (s := S8x512x512) o9 S1x512x512.size h9).WholeWords (EltTy.packing .i8))
    (o10 : Fin 3 → ℕ) (h10 : ∀ a, o10 a + S1x1x1.size a ≤ S8x8x128.size a)
    (o11 : Fin 3 → ℕ) (h11 : ∀ a, o11 a + S1x512x512.size a ≤ S8x512x512.size a)
    (o12 : Fin 2 → ℕ) (h12 : ∀ a, o12 a + S512x2048.size a ≤ S4096x2048.size a) :
    Prog (TpuEff nD τ sig (Elt F) Λ₀ .tc) PUnit := do
  Prog.lift (.waitDma2 (((cc0_scratch7 : DmaSems sig S8).slice (Rect.unit (s := S8) o7 S1.size h7)).squeeze S_ squeezes_S1_S_).sem (ssc 0)
    ((mRsc.slice (Rect.unit (s := S8x8x128) o8 S1x8x128.size h8) (fun _ => rfl)).squeeze S8x128 squeezes_S1x8x128_S8x128) ((View.wordExact_bits rfl).reshape _ _) ((View.wordExact_bits rfl).reshape _ _))
  Prog.lift (.waitDma2 (((cc0_scratch5 : DmaSems sig S8).slice (Rect.unit (s := S8) o7 S1.size h7)).squeeze S_ squeezes_S1_S_).sem (snd 0)
    ((mRcv.slice (Rect.unit (s := S8x512x512) o9 S1x512x512.size h9) (fun _ => rfl)).squeeze S512x512 squeezes_S1x512x512_S512x512)
    (((Memref.isWhole_whole _).wordExact_slice rfl _ (words_snd 0)).reshape _ _) (((Memref.isWhole_whole _).wordExact_slice rfl _ hw9).reshape _ _))
  let s : Vec F S1x1x1 .f32 ← Prog.lift (.load mRsc (Rect.unit (s := S8x8x128) o10 S1x1x1.size h10).toLoadRect (View.loadsAt_vmem h_S1x1x1))
  let o : Vec F S512x2048 .f32 ← Prog.lift (.load mO rO.toLoadRect (View.loadsAt_vmem h_S512x2048))
  let q : Vec F S1x512x512 .i8 ← Prog.lift (.load mRcv (Rect.unit (s := S8x512x512) o11 S1x512x512.size h11).toLoadRect (View.loadsAt_vmem h_S1x512x512))
  let w : Vec F S512x2048 .f32 ← Prog.lift (.load mW (Rect.unit (s := S4096x2048) o12 S512x2048.size h12).toLoadRect (View.loadsAt_vmem h_S512x2048))
  let _o : Vec F S512x2048 .f32 ← Prog.lift (.load mO rO.toLoadRect (View.loadsAt_vmem h_S512x2048))
  Prog.lift (.store mO rO (k0_pay35 s o q w) Finset.univ (View.stores_vmem_bits_univ h_S512x2048 rfl) (.inl rfl))
  pure ⟨⟩

/-- Drain the two sends of step `j`. -/
def drainP (j : Fin 7) (o3 : Fin 3 → ℕ) (h3 : ∀ a, o3 a + S1x8x128.size a ≤ S8x8x128.size a)
    (o4 : Fin 3 → ℕ) (h4 : ∀ a, o4 a + S1x512x512.size a ≤ S8x512x512.size a)
    (hw4 : (Rect.unit (s := S8x512x512) o4 S1x512x512.size h4).WholeWords (EltTy.packing .i8)) :
    Prog (TpuEff nD τ sig (Elt F) Λ₀ .tc) PUnit := do
  Prog.lift (.waitDma2 (semAt cc0_scratch6 j.castSucc) ((mRsc.slice (Rect.unit (s := S8x8x128) o3 S1x8x128.size h3) (fun _ => rfl)).squeeze S8x128 squeezes_S1x8x128_S8x128)
    (ssc j) ((View.wordExact_bits rfl).reshape _ _) ((View.wordExact_bits rfl).reshape _ _))
  Prog.lift (.waitDma2 (semAt cc0_scratch4 j.castSucc) ((mRcv.slice (Rect.unit (s := S8x512x512) o4 S1x512x512.size h4) (fun _ => rfl)).squeeze S512x512 squeezes_S1x512x512_S512x512)
    (snd j) (((Memref.isWhole_whole _).wordExact_slice rfl _ hw4).reshape _ _) (((Memref.isWhole_whole _).wordExact_slice rfl _ (words_snd j)).reshape _ _))
  pure ⟨⟩

/-- A quantise step at the offset it equals. -/
def quant (j : Fin 7) (p : Dev nD) : Prog (TpuEff nD τ sig (Elt F) Λ₀ .tc) PUnit := quantP j ![512 * p.val, 0] (inb_x p)
/-- A send step at the device and the slots it equals. -/
def send (c : Dev nD) (j : Fin 7) : Prog (TpuEff nD τ sig (Elt F) Λ₀ .tc) PUnit :=
  sendP j (peer c j) (peer c j) ![c.val] (inb_sem c) ![c.val, 0, 0] (inb_rsc c) ![c.val, 0, 0] (inb_rcv c) (words_rcv c)
def own (c : Dev nD) : Prog (TpuEff nD τ sig (Elt F) Λ₀ .tc) PUnit := ownP ![512 * c.val, 0] (inb_x c) ![512 * c.val, 0] (inb_w c)
/-- A receive step at the slot it equals. -/
def recv (s : Dev nD) : Prog (TpuEff nD τ sig (Elt F) Λ₀ .tc) PUnit :=
  recvP ![s.val] (inb_sem s) ![s.val, 0, 0] (inb_rsc s) ![s.val, 0, 0] (inb_rcv s) (words_rcv s) ![s.val, 0, 0] (inb_one s)
    ![s.val, 0, 0] (inb_rcv s) ![512 * s.val, 0] (inb_w s)
def drain (c : Dev nD) (j : Fin 7) : Prog (TpuEff nD τ sig (Elt F) Λ₀ .tc) PUnit :=
  drainP j ![c.val, 0, 0] (inb_rsc c) ![c.val, 0, 0] (inb_rcv c) (words_rcv c)

/-- The seven steps in order. -/
abbrev steps : List (Fin 7) := [0, 1, 2, 3, 4, 5, 6]

/-- What a device runs once it knows its number. -/
def deviceP (c : Dev nD) : Prog (TpuEff nD τ sig (Elt F) Λ₀ .tc) PUnit :=
  seqL (fun j => sigP (devSig c j)) steps >>= fun _ =>
  quantP 0 (k0_off1 c (stepWord 0)) (k0_off1_inb c 0) >>= fun _ =>
  barP >>= fun _ =>
  sendP 0 (devScl c 0) (devBlk c 0) (k0_off2 c) (k0_off2_inb c) (k0_off3 c) (k0_off3_inb c) (k0_off4 c) (k0_off4_inb c) (k0_off4_wordsi8 c) >>= fun _ =>
  seqL (fun j => quantP j (k0_off1 c (stepWord j)) (k0_off1_inb c j) >>= fun _ =>
    sendP j (devScl c j) (devBlk c j) (k0_off2 c) (k0_off2_inb c) (k0_off3 c) (k0_off3_inb c) (k0_off4 c) (k0_off4_inb c) (k0_off4_wordsi8 c))
    [1, 2, 3, 4, 5, 6] >>= fun _ =>
  ownP (k0_off5 c) (k0_off5_inb c) (k0_off6 c) (k0_off6_inb c) >>= fun _ =>
  seqL (fun k => recvP (k0_off7 c (stepWord k)) (k0_off7_inb c k) (k0_off8 c (stepWord k)) (k0_off8_inb c k)
    (k0_off9 c (stepWord k)) (k0_off9_inb c k) (k0_off9_wordsi8 c k) (k0_off10 c (stepWord k)) (k0_off10_inb c k)
    (k0_off11 c (stepWord k)) (k0_off11_inb c k) (k0_off12 c (stepWord k)) (k0_off12_inb c k)) steps >>= fun _ =>
  seqL (fun j => drainP j (k0_off3 c) (k0_off3_inb c) (k0_off4 c) (k0_off4_inb c) (k0_off4_wordsi8 c)) steps

/-- The same at the devices and slots the program's arithmetic comes to. -/
def device (c : Dev nD) : Prog (TpuEff nD τ sig (Elt F) Λ₀ .tc) PUnit :=
  seqL (fun j => sigP (peer c j)) steps >>= fun _ =>
  quant 0 (peer c 0) >>= fun _ =>
  barP >>= fun _ =>
  send c 0 >>= fun _ =>
  seqL (fun j => quant j (peer c j) >>= fun _ => send c j) [1, 2, 3, 4, 5, 6] >>= fun _ =>
  own c >>= fun _ =>
  seqL (fun k => recv (src c k)) steps >>= fun _ =>
  seqL (drain c) steps

theorem quantP_eq (j : Fin 7) (p : Dev nD) {o1 : Fin 2 → ℕ} (h1 : ∀ a, o1 a + S512x512.size a ≤ S4096x512.size a)
    (e : o1 = ![512 * p.val, 0]) : quantP (F := F) j o1 h1 = quant j p := by subst e; rfl

theorem sendP_eq (c : Dev nD) (j : Fin 7) {p p' : Dev nD} (ep : p = peer c j) (ep' : p' = peer c j)
    {o2 : Fin 1 → ℕ} (h2 : ∀ a, o2 a + S1.size a ≤ S8.size a)
    {o3 : Fin 3 → ℕ} (h3 : ∀ a, o3 a + S1x8x128.size a ≤ S8x8x128.size a)
    {o4 : Fin 3 → ℕ} (h4 : ∀ a, o4 a + S1x512x512.size a ≤ S8x512x512.size a)
    (hw4 : (Rect.unit (s := S8x512x512) o4 S1x512x512.size h4).WholeWords (EltTy.packing .i8))
    (e2 : o2 = ![c.val]) (e3 : o3 = ![c.val, 0, 0]) (e4 : o4 = ![c.val, 0, 0]) :
    sendP (F := F) j p p' o2 h2 o3 h3 o4 h4 hw4 = send c j := by subst ep ep' e2 e3 e4; rfl

theorem ownP_eq (c : Dev nD) {o5 : Fin 2 → ℕ} (h5 : ∀ a, o5 a + S512x512.size a ≤ S4096x512.size a)
    {o6 : Fin 2 → ℕ} (h6 : ∀ a, o6 a + S512x2048.size a ≤ S4096x2048.size a)
    (e5 : o5 = ![512 * c.val, 0]) (e6 : o6 = ![512 * c.val, 0]) : ownP (F := F) o5 h5 o6 h6 = own c := by subst e5 e6; rfl

theorem recvP_eq (s : Dev nD) {o7 : Fin 1 → ℕ} (h7 : ∀ a, o7 a + S1.size a ≤ S8.size a)
    {o8 : Fin 3 → ℕ} (h8 : ∀ a, o8 a + S1x8x128.size a ≤ S8x8x128.size a)
    {o9 : Fin 3 → ℕ} (h9 : ∀ a, o9 a + S1x512x512.size a ≤ S8x512x512.size a)
    (hw9 : (Rect.unit (s := S8x512x512) o9 S1x512x512.size h9).WholeWords (EltTy.packing .i8))
    {o10 : Fin 3 → ℕ} (h10 : ∀ a, o10 a + S1x1x1.size a ≤ S8x8x128.size a)
    {o11 : Fin 3 → ℕ} (h11 : ∀ a, o11 a + S1x512x512.size a ≤ S8x512x512.size a)
    {o12 : Fin 2 → ℕ} (h12 : ∀ a, o12 a + S512x2048.size a ≤ S4096x2048.size a)
    (e7 : o7 = ![s.val]) (e8 : o8 = ![s.val, 0, 0]) (e9 : o9 = ![s.val, 0, 0]) (e10 : o10 = ![s.val, 0, 0])
    (e11 : o11 = ![s.val, 0, 0]) (e12 : o12 = ![512 * s.val, 0]) :
    recvP (F := F) o7 h7 o8 h8 o9 h9 hw9 o10 h10 o11 h11 o12 h12 = recv s := by subst e7 e8 e9 e10 e11 e12; rfl

theorem drainP_eq (c : Dev nD) (j : Fin 7) {o3 : Fin 3 → ℕ} (h3 : ∀ a, o3 a + S1x8x128.size a ≤ S8x8x128.size a)
    {o4 : Fin 3 → ℕ} (h4 : ∀ a, o4 a + S1x512x512.size a ≤ S8x512x512.size a)
    (hw4 : (Rect.unit (s := S8x512x512) o4 S1x512x512.size h4).WholeWords (EltTy.packing .i8))
    (e3 : o3 = ![c.val, 0, 0]) (e4 : o4 = ![c.val, 0, 0]) : drainP (F := F) j o3 h3 o4 h4 hw4 = drain c j := by subst e3 e4; rfl

theorem deviceP_eq (c : Dev nD) : deviceP (F := F) c = device c := by
  unfold deviceP device
  simp only [devSig_eq, fun j => quantP_eq (F := F) j (peer c j) (k0_off1_inb c j) (off1_eq c j),
    fun j => sendP_eq (F := F) c j (devScl_eq c j) (devBlk_eq c j) (k0_off2_inb c) (k0_off3_inb c) (k0_off4_inb c)
      (k0_off4_wordsi8 c) (k0_off2_eq c) (k0_off3_eq c) (k0_off4_eq c),
    ownP_eq (F := F) c (k0_off5_inb c) (k0_off6_inb c) (k0_off5_eq c) (k0_off6_eq c),
    fun k => recvP_eq (F := F) (src c k) (k0_off7_inb c k) (k0_off8_inb c k) (k0_off9_inb c k) (k0_off9_wordsi8 c k)
      (k0_off10_inb c k) (k0_off11_inb c k) (k0_off12_inb c k) (off7_eq c k) (off8_eq c k) (off9_eq c k) (off10_eq c k)
      (off11_eq c k) (off12_eq c k),
    fun j => drainP_eq (F := F) c j (k0_off3_inb c) (k0_off4_inb c) (k0_off4_wordsi8 c) (k0_off3_eq c) (k0_off4_eq c)]

set_option maxRecDepth 65536 in
/-- The printed body is the sequence of the stages. -/
theorem body_eqP (t : Fin cfg0.N) : bodyAt0 (F := F) t = .op .deviceId (deviceP (F := F)) := by
  chain_rfl

end Cert.KernelIdealProof

end
-- ==== Proof.KernelIdealSchedule.lean ====
/-
# The schedule of the exchange

Who pays which semaphore and what it hands over. A device's barrier semaphore is paid by its seven peers; each payment
hands over the two landing slots the payer keeps for that device. A transfer pays two semaphores: the sender's (handing
the sent slot back) and the receiver's (handing over the landing slot, filled with the sender's block or scales).
-/
module

public import proofs.«01_k».proof.Proof.KernelIdealStages
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Ring

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy and the exchange's, whose duties are device numbers -/

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Cells -/

/-- A device's cells: the barrier, or semaphore `i` of one of the four arrays (0 blocks out, 1 blocks in, 2 scales out,
3 scales in). -/
abbrev CI : Type := Option (Fin 4 × Fin 8)

def semOf (a : Fin 4) (i : Fin 8) : DmaSem sig :=
  match a with
  | 0 => semAt cc0_scratch4 i
  | 1 => semAt cc0_scratch5 i
  | 2 => semAt cc0_scratch6 i
  | 3 => semAt cc0_scratch7 i

def csem : CI → SemLoc sig
  | none => .reg barS
  | some (a, i) => .dma (semOf a i)

/-- Which of the cells a semaphore is, if any. -/
def decode : SemLoc sig → Option CI
  | .reg _ => some none
  | .dma q => if q.val < 3 then none else some (some (⟨(q.val - 3) / 8 % 4, Nat.mod_lt _ (by decide)⟩, ⟨(q.val - 3) % 8, Nat.mod_lt _ (by decide)⟩))

theorem decode_dma : ∀ (a : Fin 4) (i : Fin 8), decode (.dma (semOf a i)) = some (some (a, i)) := by decide +kernel
theorem decode_csem (x : CI) : decode (csem x) = some x := by
  rcases x with _ | ⟨a, i⟩
  · rfl
  · exact decode_dma a i
theorem csem_injective : Function.Injective csem := fun x y h => by
  have := congrArg decode h; rw [decode_csem, decode_csem] at this; exact Option.some.inj this

abbrev cell (c : Dev nD) (x : CI) : GSem nD τ sig := ((c : Thread nD τ), csem x)

abbrev barC (c : Dev nD) : GSem nD τ sig := ((c : Thread nD τ), .reg barS)
abbrev outC (c : Dev nD) (i : Fin 8) : GSem nD τ sig := ((c : Thread nD τ), .dma (semAt cc0_scratch4 i))
abbrev inC (c : Dev nD) (i : Fin 8) : GSem nD τ sig := ((c : Thread nD τ), .dma (semAt cc0_scratch5 i))
abbrev soutC (c : Dev nD) (i : Fin 8) : GSem nD τ sig := ((c : Thread nD τ), .dma (semAt cc0_scratch6 i))
abbrev sinC (c : Dev nD) (i : Fin 8) : GSem nD τ sig := ((c : Thread nD τ), .dma (semAt cc0_scratch7 i))

/-- The credit of a block's transfer. -/
abbrev NB : ℕ := (rcv 0).view.dmaCredit
/-- The credit of a scale block's transfer. -/
abbrev NS : ℕ := (rsc 0).view.dmaCredit
theorem NB_pos : 0 < NB := View.dmaCredit_pos _ (by decide)
theorem NS_pos : 0 < NS := View.dmaCredit_pos _ (by decide)

/-! ## Contents -/

/-- The staged rows of `x` on a device. -/
def xstg (c : Dev nD) : (cc0_stg0_0 : Ref sig .tc).ty.Contents (Elt F) :=
  (win0_0.blk (0 : Fin 1)).view.read (Elt F) (m ((c : Thread nD τ).loc main_arg0))
/-- The staged weights on a device. -/
def wstg (c : Dev nD) : (cc0_stg1_0 : Ref sig .tc).ty.Contents (Elt F) :=
  (win0_1.blk (0 : Fin 1)).view.read (Elt F) (m ((c : Thread nD τ).loc main_arg1))

/-- The rows of device `s` that belong to device `d`. -/
def xrows (s d : Dev nD) : Vec F S512x512 .f32 := mX.view.readAt (Elt F) (rX d).toLoadRect (xstg m s)
/-- The weights' rows that go with device `s`'s block. -/
def wrows (c s : Dev nD) : Vec F S512x2048 .f32 := mW.view.readAt (Elt F) (rW s).toLoadRect (wstg m c)

/-! ## Slots -/

section Slot
variable {s : Shape} {e : EltTy}

/-- A slot of a buffer on a device, at some contents. -/
def slotAny (d : Dev nD) (M : Memref sig .tc .vmem s e) (r : Rect s) : sProp 𝕄 :=
  iprop(∃ f : Buf (Elt F) (M.view.loc (d : Thread nD τ)), M.view.loc (d : Thread nD τ) ↦[(M.access r).set]{fullShare} f)

/-- A slot of a buffer on a device that reads `X`. -/
def slot (d : Dev nD) (M : Memref sig .tc .vmem s e) (r : Rect s) (X : r.shape.Idx → Elt F e) : sProp 𝕄 :=
  iprop(∃ f : Buf (Elt F) (M.view.loc (d : Thread nD τ)), ⌜M.view.readAt (Elt F) r.toLoadRect f = X⌝
    ∗ (M.view.loc (d : Thread nD τ) ↦[(M.access r).set]{fullShare} f))

omit [FloatOps F] in
instance slotAny_storable (d : Dev nD) (M : Memref sig .tc .vmem s e) (r : Rect s) :
    BI.Storable (upEmb : UEmb _ 𝕄) (slotAny (F := F) d M r) := by unfold slotAny; infer_instance
omit [FloatOps F] in
instance slot_storable (d : Dev nD) (M : Memref sig .tc .vmem s e) (r : Rect s) (X : r.shape.Idx → Elt F e) :
    BI.Storable (upEmb : UEmb _ 𝕄) (slot (F := F) d M r X) := by unfold slot; infer_instance

omit [FloatOps F] in
theorem slot_any (d : Dev nD) (M : Memref sig .tc .vmem s e) (r : Rect s) (X : r.shape.Idx → Elt F e) :
    slot (F := F) d M r X ⊢ slotAny d M r := by
  unfold slot slotAny
  iintro ⟨%f, -, H⟩
  iexists f; iexact H

omit [FloatOps F] in
/-- A transfer between two slots of one shape, each seen through the same reshape, leaves in the second what the first
reads. -/
theorem land {U T : Shape} (v v' : View sig .tc .vmem U e) (h h' : T.numel = U.numel)
    (f : v.ty.Contents (Elt F)) (f' : v'.ty.Contents (Elt F)) :
    v'.read (Elt F) ((v'.reshape T h').write (Elt F) f' ((v.reshape T h).read (Elt F) f) Finset.univ) = v.read (Elt F) f := by
  rw [View.write_reshape_univ, View.read_write_univ]
  funext x
  show v.read (Elt F) f (Shape.reshapeEquiv h ((Shape.reshapeEquiv h).symm x)) = _
  rw [Equiv.apply_symm_apply]

end Slot

/-! ## The schedule -/

/-- The duties of a cell of device `c`. -/
def dutO (c : Dev nD) : Option CI → Finset (Fin 8)
  | some none => Finset.univ.erase c
  | some (some (a, i)) => if (a = 0 ∨ a = 2) then (if i = 7 then ∅ else {0}) else if i = c then ∅ else {0}
  | none => ∅

def amtO : Option CI → ℕ
  | some (some (a, _)) => if (a = 0 ∨ a = 1) then NB else NS
  | _ => 1

/-- The step whose slot semaphore `i` of a sending array guards. -/
abbrev stepOf (i : Fin 8) : Fin 7 := ⟨i.val % 7, Nat.mod_lt _ (by decide)⟩

/-- What a payment of duty `d` at a cell of device `c` hands over. -/
def payO (c : Dev nD) (d : Fin 8) : Option CI → sProp 𝕄
  | some none => iprop(slotAny d mRcv (rRcv c) ∗ slotAny d mRsc (rRsc c))
  | some (some (a, i)) =>
    match a with
    | 0 => slotAny c mSnd (rSnd (stepOf i))
    | 1 => slot c mRcv (rRcv i) (k0_pay3 (xrows m i c))
    | 2 => slotAny c mSsc (rSsc (stepOf i))
    | 3 => slot c mRsc (rRsc i) (k0_pay4 (xrows m i c))
  | none => iprop(emp)

def sched : Rounds.Schedule (GSem nD τ sig) (Fin 8) 𝕄 where
  duties g r := if r = 0 ∧ g.1.2 = .tc then dutO g.1.1 (decode g.2) else ∅
  unitless _ := False
  amount g _ _ := amtO (decode g.2)
  payload g _ d := payO m g.1.1 d (decode g.2)
  amount_pos g _ _ _ := by
    unfold amtO
    split
    · split
      · exact NB_pos
      · exact NS_pos
    · exact Nat.one_pos

instance payO_storable (c : Dev nD) (d : Fin 8) (x : Option CI) : BI.Storable (upEmb : UEmb _ 𝕄) (payO m c d x) := by
  unfold payO
  (repeat' split) <;> infer_instance

instance sched_payload_storable (g : GSem nD τ sig) (r : ℕ) (d : Fin 8) :
    BI.Storable (upEmb : UEmb _ 𝕄) ((sched (F := F) m).payload g r d) := by
  show BI.Storable upEmb (payO m g.1.1 d (decode g.2))
  infer_instance

theorem duties_cell (c : Dev nD) (x : CI) : (sched m).duties (cell c x) 0 = dutO c (some x) := by
  dsimp only [sched]; rw [decode_csem]; exact if_pos ⟨rfl, rfl⟩
theorem duties_later (g : GSem nD τ sig) : ∀ r, 1 ≤ r → (sched m).duties g r = ∅ :=
  fun r hr => by dsimp only [sched]; exact if_neg fun h => by omega
theorem amount_cell (c : Dev nD) (x : CI) (d : Fin 8) : (sched m).amount (cell c x) 0 d = amtO (some x) := by
  dsimp only [sched]; rw [decode_csem]
theorem payload_cell (c : Dev nD) (x : CI) (d : Fin 8) : (sched m).payload (cell c x) 0 d = payO m c d (some x) := by
  dsimp only [sched]; rw [decode_csem]

section Facts
variable (c : Dev nD)

theorem duties_bar : (sched m).duties (barC c) 0 = Finset.univ.erase c := duties_cell m c none
theorem duties_out (j : Fin 7) : (sched m).duties (outC c j.castSucc) 0 = {0} :=
  (duties_cell m c (some (0, j.castSucc))).trans (by revert c j; decide)
theorem duties_sout (j : Fin 7) : (sched m).duties (soutC c j.castSucc) 0 = {0} :=
  (duties_cell m c (some (2, j.castSucc))).trans (by revert c j; decide)
theorem duties_in {s : Dev nD} (h : s ≠ c) : (sched m).duties (inC c s) 0 = {0} :=
  (duties_cell m c (some (1, s))).trans (by revert c s; decide)
theorem duties_sin {s : Dev nD} (h : s ≠ c) : (sched m).duties (sinC c s) 0 = {0} :=
  (duties_cell m c (some (3, s))).trans (by revert c s; decide)

theorem amount_bar (d : Fin 8) : (sched m).amount (barC c) 0 d = 1 := amount_cell m c none d
theorem amount_out (i d : Fin 8) : (sched m).amount (outC c i) 0 d = NB := amount_cell m c (some (0, i)) d
theorem amount_in (i d : Fin 8) : (sched m).amount (inC c i) 0 d = NB := amount_cell m c (some (1, i)) d
theorem amount_sout (i d : Fin 8) : (sched m).amount (soutC c i) 0 d = NS := amount_cell m c (some (2, i)) d
theorem amount_sin (i d : Fin 8) : (sched m).amount (sinC c i) 0 d = NS := amount_cell m c (some (3, i)) d

theorem expect_bar : (sched m).expect (barC c) 0 = 7 := by
  unfold Schedule.expect Schedule.amountOf
  rw [duties_bar, Finset.sum_congr rfl fun d _ => amount_bar m c d, Finset.sum_const, Finset.card_erase_of_mem (Finset.mem_univ _)]
  rfl
theorem expect_out (j : Fin 7) : (sched m).expect (outC c j.castSucc) 0 = NB := by
  unfold Schedule.expect Schedule.amountOf; rw [duties_out, Finset.sum_singleton, amount_out]
theorem expect_sout (j : Fin 7) : (sched m).expect (soutC c j.castSucc) 0 = NS := by
  unfold Schedule.expect Schedule.amountOf; rw [duties_sout, Finset.sum_singleton, amount_sout]
theorem expect_in {s : Dev nD} (h : s ≠ c) : (sched m).expect (inC c s) 0 = NB := by
  unfold Schedule.expect Schedule.amountOf; rw [duties_in m c h, Finset.sum_singleton, amount_in]
theorem expect_sin {s : Dev nD} (h : s ≠ c) : (sched m).expect (sinC c s) 0 = NS := by
  unfold Schedule.expect Schedule.amountOf; rw [duties_sin m c h, Finset.sum_singleton, amount_sin]

theorem payload_bar (d : Fin 8) : (sched m).payload (barC c) 0 d = iprop(slotAny d mRcv (rRcv c) ∗ slotAny d mRsc (rRsc c)) :=
  payload_cell m c none d
theorem stepOf_castSucc (j : Fin 7) : stepOf j.castSucc = j := Fin.ext (Nat.mod_eq_of_lt j.isLt)
theorem payload_out (j : Fin 7) (d : Fin 8) : (sched m).payload (outC c j.castSucc) 0 d = slotAny c mSnd (rSnd j) :=
  (payload_cell m c (some (0, j.castSucc)) d).trans (by show slotAny c mSnd (rSnd (stepOf j.castSucc)) = _; rw [stepOf_castSucc])
theorem payload_sout (j : Fin 7) (d : Fin 8) : (sched m).payload (soutC c j.castSucc) 0 d = slotAny c mSsc (rSsc j) :=
  (payload_cell m c (some (2, j.castSucc)) d).trans (by show slotAny c mSsc (rSsc (stepOf j.castSucc)) = _; rw [stepOf_castSucc])
theorem payload_in (s : Dev nD) (d : Fin 8) : (sched m).payload (inC c s) 0 d = slot c mRcv (rRcv s) (k0_pay3 (xrows m s c)) :=
  payload_cell m c (some (1, s)) d
theorem payload_sin (s : Dev nD) (d : Fin 8) : (sched m).payload (sinC c s) 0 d = slot c mRsc (rRsc s) (k0_pay4 (xrows m s c)) :=
  payload_cell m c (some (3, s)) d

theorem rest_bar : bigSep ((sched m).duties (barC c) 0 \ ∅) (fun d => (sched m).payload (barC c) 0 d)
    = bigSep (Finset.univ.erase c) fun d : Fin 8 => iprop(slotAny d mRcv (rRcv c) ∗ slotAny d mRsc (rRsc c)) := by
  rw [Finset.sdiff_empty, duties_bar]; exact bigSep_congr fun d _ => payload_bar m c d
theorem rest_out (j : Fin 7) : bigSep ((sched m).duties (outC c j.castSucc) 0 \ ∅) (fun d => (sched m).payload (outC c j.castSucc) 0 d)
    = slotAny c mSnd (rSnd j) := by rw [Finset.sdiff_empty, duties_out, bigSep_singleton, payload_out]
theorem rest_sout (j : Fin 7) : bigSep ((sched m).duties (soutC c j.castSucc) 0 \ ∅) (fun d => (sched m).payload (soutC c j.castSucc) 0 d)
    = slotAny c mSsc (rSsc j) := by rw [Finset.sdiff_empty, duties_sout, bigSep_singleton, payload_sout]
theorem rest_in {s : Dev nD} (h : s ≠ c) : bigSep ((sched m).duties (inC c s) 0 \ ∅) (fun d => (sched m).payload (inC c s) 0 d)
    = slot c mRcv (rRcv s) (k0_pay3 (xrows m s c)) := by rw [Finset.sdiff_empty, duties_in m c h, bigSep_singleton, payload_in]
theorem rest_sin {s : Dev nD} (h : s ≠ c) : bigSep ((sched m).duties (sinC c s) 0 \ ∅) (fun d => (sched m).payload (sinC c s) 0 d)
    = slot c mRsc (rRsc s) (k0_pay4 (xrows m s c)) := by rw [Finset.sdiff_empty, duties_sin m c h, bigSep_singleton, payload_sin]

end Facts

/-! ## What each device owes, and the levels -/

/-- What a device owes its receivers with the steps of a list still to send. -/
def owedS (c : Dev nD) : List (Fin 7) → CellTallies nD τ sig Unit
  | [] => 0
  | j :: js => (owedS c js + tallyAt (inC (peer c j) c) () NB) + tallyAt (sinC (peer c j) c) () NS

/-- What it owes with the peers of a list still to signal, and all its blocks to send. -/
def owedB (c : Dev nD) : List (Fin 7) → CellTallies nD τ sig Unit
  | [] => owedS c steps
  | j :: js => owedB c js + tallyAt (barC (peer c j)) () 1

def L (g : GSem nD τ sig) : Finset Unit := if g.1.2 = .tc then {()} else ∅
def levO : Option CI → ℕ
  | some none => 1
  | some (some (a, _)) => if (a = 1 ∨ a = 3) then 2 else 0
  | none => 0
/-- Barriers below the incoming transfers, everything else below both. -/
def lv (g : GSem nD τ sig) (_ : Unit) : ℕ := levO (decode g.2)

theorem L_of_ne (g : GSem nD τ sig) (h : g.1.2 ≠ .tc) : L g = ∅ := if_neg h
theorem L_tc (c : Dev nD) (sm : SemLoc sig) : L ((c : Thread nD τ), sm) = {()} := if_pos rfl

theorem owedS_pos {c : Dev nD} {g : GSem nD τ sig} {u : Unit} : ∀ {l : List (Fin 7)}, 0 < owedS c l g u → g.1.2 = .tc ∧ lv g u = 2 := by
  intro l
  induction l with
  | nil => intro h; exact absurd h (Nat.lt_irrefl 0)
  | cons j js ih =>
    intro h
    unfold owedS at h
    rw [Pi.add_apply, Finsupp.add_apply, Pi.add_apply, Finsupp.add_apply, tallyAt_apply, tallyAt_apply] at h
    by_cases h1 : g = inC (peer c j) c ∧ u = ()
    · rw [h1.1]; exact ⟨rfl, by show levO (decode (csem (some (1, c)))) = 2; rw [decode_csem]; rfl⟩
    by_cases h2 : g = sinC (peer c j) c ∧ u = ()
    · rw [h2.1]; exact ⟨rfl, by show levO (decode (csem (some (3, c)))) = 2; rw [decode_csem]; rfl⟩
    rw [if_neg h1, if_neg h2] at h
    exact ih h

theorem owedB_pos {c : Dev nD} {g : GSem nD τ sig} {u : Unit} : ∀ {l : List (Fin 7)}, 0 < owedB c l g u → g.1.2 = .tc ∧ 1 ≤ lv g u := by
  intro l
  induction l with
  | nil => intro h; obtain ⟨h1, h2⟩ := owedS_pos h; exact ⟨h1, h2 ▸ by decide⟩
  | cons j js ih =>
    intro h
    unfold owedB at h
    rw [Pi.add_apply, Finsupp.add_apply, tallyAt_apply] at h
    by_cases h1 : g = barC (peer c j) ∧ u = ()
    · rw [h1.1]; exact ⟨rfl, Nat.le_refl 1⟩
    rw [if_neg h1] at h
    exact ih h

omit [FloatOps F] in
theorem mayWait_of {c : Dev nD} {sm : SemLoc sig} {O : CellTallies nD τ sig Unit} (n : ℕ) (hs : levO (decode sm) ≤ n)
    (hO : ∀ g u, 0 < O g u → g.1.2 = .tc ∧ n < lv g u) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

omit [FloatOps F] in
theorem mayWait_stage (c : Dev nD) (q : DmaSem sig) (hq : levO (decode (.dma q)) = 0) (O : CellTallies nD τ sig Unit)
    (hO : O = owedB c steps ∨ O = 0) : (levAts L lv : sProp 𝕄) ⊢ MayWait (c : Thread nD τ) (.dma q) () O := by
  rcases hO with rfl | rfl
  · exact mayWait_of 0 (Nat.le_of_eq hq) fun g u hg => owedB_pos hg
  · rw [MayWait_zero]; iintro -; iempintro

omit [FloatOps F] in
theorem mayWait_bar (c : Dev nD) (l : List (Fin 7)) :
    (levAts L lv : sProp 𝕄) ⊢ MayWait (c : Thread nD τ) (.reg barS) () (owedS c l) :=
  mayWait_of 1 (Nat.le_refl 1) fun g u hg => ⟨(owedS_pos hg).1, by rw [(owedS_pos hg).2]; decide⟩

end Cert.KernelIdealProof

end
-- ==== Proof.KernelIdealSteps.lean ====
/-
# Each stage, proved once

A stage is proved at a symbolic device and a symbolic step; a run of stages over a list of steps follows by induction.
-/
module

public import proofs.«01_k».proof.Proof.KernelIdealSchedule
public import Idealize.ShloMosaic.Lib.Pipeline.BigSepL

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- A device's program run to a postcondition. -/
abbrev WP (c : Dev nD) (p : Prog (TpuEff nD τ sig (Elt F) Λ₀ .tc) PUnit) (Q : PUnit → sProp 𝕄) : sProp 𝕄 :=
  wp frame (wpE (defs₀ (F := F)) 𝒱₀ (c : Thread nD τ) none) Set.univ p Q

/-! ## What every stage may use: the cells' invariants, that round 0 of each is reached, and the levels -/

def records (K : Dev nD × CI → ℕ) : sProp 𝕄 :=
  iprop((bigSep Finset.univ fun ck : Dev nD × CI => cellInv ER (sched m) (K ck) (cell ck.1 ck.2))
    ∗ bigSep Finset.univ fun ck : Dev nD × CI => reached ER (cell ck.1 ck.2) 0)

instance records_persistent (K : Dev nD × CI → ℕ) : BI.Persistent (records m K) := by unfold records; infer_instance

def ctx (K : Dev nD × CI → ℕ) : sProp 𝕄 := iprop(records m K ∗ levAts L lv)

instance ctx_persistent (K : Dev nD × CI → ℕ) : BI.Persistent (ctx m K) := by unfold ctx; infer_instance

variable (K : Dev nD × CI → ℕ)

theorem inv_at (ck : Dev nD × CI) :
    (bigSep Finset.univ fun ck : Dev nD × CI => (cellInv ER (sched m) (K ck) (cell ck.1 ck.2) : sProp 𝕄)) ⊢ cellInv ER (sched m) (K ck) (cell ck.1 ck.2) :=
  bigSep_elim (Finset.mem_univ ck)
omit [FloatOps F] in
theorem reached_at (ck : Dev nD × CI) :
    (bigSep Finset.univ fun ck : Dev nD × CI => (reached ER (cell ck.1 ck.2) 0 : sProp 𝕄)) ⊢ reached ER (cell ck.1 ck.2) 0 :=
  bigSep_elim (Finset.mem_univ ck)

theorem ctx_inv (c : Dev nD) (x : CI) : ctx m K ⊢ cellInv ER (sched m) (K (c, x)) (cell c x) := by
  unfold ctx records
  iintro ⟨⟨H, -⟩, -⟩
  iapply (inv_at m K (c, x)); iexact H
theorem ctx_reached (c : Dev nD) (x : CI) : ctx m K ⊢ reached ER (cell c x) 0 := by
  unfold ctx records
  iintro ⟨⟨-, H⟩, -⟩
  iapply (reached_at (F := F) (c, x)); iexact H
theorem ctx_lev : ctx m K ⊢ levAts L lv := by
  unfold ctx
  iintro ⟨-, H⟩; iexact H

theorem inv_bar (c : Dev nD) : ctx m K ⊢ cellInv ER (sched m) (K (c, none)) (barC c) := ctx_inv m K c none
theorem inv_out (c : Dev nD) (i : Fin 8) : ctx m K ⊢ cellInv ER (sched m) (K (c, some (0, i))) (outC c i) := ctx_inv m K c (some (0, i))
theorem inv_in (c : Dev nD) (i : Fin 8) : ctx m K ⊢ cellInv ER (sched m) (K (c, some (1, i))) (inC c i) := ctx_inv m K c (some (1, i))
theorem inv_sout (c : Dev nD) (i : Fin 8) : ctx m K ⊢ cellInv ER (sched m) (K (c, some (2, i))) (soutC c i) := ctx_inv m K c (some (2, i))
theorem inv_sin (c : Dev nD) (i : Fin 8) : ctx m K ⊢ cellInv ER (sched m) (K (c, some (3, i))) (sinC c i) := ctx_inv m K c (some (3, i))
theorem got_bar (c : Dev nD) : ctx m K ⊢ reached ER (barC c) 0 := ctx_reached m K c none
theorem got_out (c : Dev nD) (i : Fin 8) : ctx m K ⊢ reached ER (outC c i) 0 := ctx_reached m K c (some (0, i))
theorem got_in (c : Dev nD) (i : Fin 8) : ctx m K ⊢ reached ER (inC c i) 0 := ctx_reached m K c (some (1, i))
theorem got_sout (c : Dev nD) (i : Fin 8) : ctx m K ⊢ reached ER (soutC c i) 0 := ctx_reached m K c (some (2, i))
theorem got_sin (c : Dev nD) (i : Fin 8) : ctx m K ⊢ reached ER (sinC c i) 0 := ctx_reached m K c (some (3, i))

/-! ## A run of stages -/

/-- If a stage takes what is left before step `j` and that step's own resources to what is left after it and that step's
results, the stages of a list take all the steps' resources to all their results. -/
theorem seq_sound (R : sProp 𝕄) [BI.Persistent R] (c : Dev nD) (f : Fin 7 → Prog (TpuEff nD τ sig (Elt F) Λ₀ .tc) PUnit)
    (S : List (Fin 7) → sProp 𝕄) (P Q : Fin 7 → sProp 𝕄)
    (h : ∀ j js Kt, iprop(R ∗ S (j :: js) ∗ P j ∗ ((S js ∗ Q j) -∗ Kt ⟨⟩)) ⊢ WP c (f j) Kt) :
    ∀ (js : List (Fin 7)) (Kt : PUnit → sProp 𝕄),
      iprop(R ∗ S js ∗ bigSepL js P ∗ ((S [] ∗ bigSepL js Q) -∗ Kt ⟨⟩)) ⊢ WP c (seqL f js) Kt
  | [], Kt => by
    unfold seqL WP
    rw [Prog.pure_eq_ret, wp_ret, bigSepL_nil, bigSepL_nil]
    iintro ⟨-, HS, -, Hk⟩
    imodintro
    iapply Hk
    isplitl [HS]; · iexact HS
    iempintro
  | j :: js, Kt => by
    unfold seqL WP
    rw [wp_bind, bigSepL_cons', bigSepL_cons']
    iintro ⟨#HR, HS, ⟨HP, HPs⟩, Hk⟩
    iapply (h j js _)
    isplitr; · iexact HR
    isplitl [HS]; · iexact HS
    isplitl [HP]; · iexact HP
    iintro ⟨HS, HQ⟩
    iapply (seq_sound R c f S P Q h js Kt)
    isplitr; · iexact HR
    isplitl [HS]; · iexact HS
    isplitl [HPs]; · iexact HPs
    iintro ⟨HS, HQs⟩
    iapply Hk
    isplitl [HS]; · iexact HS
    isplitl [HQ] <;> iassumption

/-! ## Loads and stores of slots -/

section Slots
variable {s : Shape} {e : EltTy}

omit [FloatOps F] in
theorem load_sub (M : Memref sig .tc .vmem s e) (r : Rect s) : M.view.setOn r.toLoadRect.set ⊆ (M.access r).set := by
  rw [View.set_slice]; exact Finset.Subset.refl _

omit [FloatOps F] in
theorem store_sub (M : Memref sig .tc .vmem s e) (r : Rect s) : (M.access r).setOn Finset.univ ⊆ (M.access r).set :=
  Finset.Subset.refl _

omit [FloatOps F] in
/-- A slot just stored to reads what was stored. -/
theorem slot_stored (d : Dev nD) (M : Memref sig .tc .vmem s e) (r : Rect s) (f : Buf (Elt F) (M.view.loc (d : Thread nD τ)))
    (w : r.shape.Idx → Elt F e) :
    ((M.access r).loc (d : Thread nD τ) ↦[(M.access r).set]{fullShare} (M.access r).write (Elt F) f w Finset.univ : sProp 𝕄) ⊢ slot d M r w := by
  unfold slot
  iintro H
  iexists ((M.access r).write (Elt F) f w Finset.univ)
  isplitr
  · ipureintro; exact View.read_write_univ (v := M.access r) f w
  iexact H

/-- What a device owes, whatever it has waited on. -/
def owe (c : Dev nD) (O : CellTallies nD τ sig Unit) : sProp 𝕄 := iprop(∃ W, owes (c : Thread nD τ) O W)

def xPts (c : Dev nD) : sProp 𝕄 := ((c : Thread nD τ).loc cc0_stg0_0) ↦{fullShare} xstg m c
def wPts (c : Dev nD) : sProp 𝕄 := ((c : Thread nD τ).loc cc0_stg1_0) ↦{fullShare} wstg m c
def oPts (c : Dev nD) (f : (cc0_stg2_0 : Ref sig .tc).ty.Contents (Elt F)) : sProp 𝕄 := ((c : Thread nD τ).loc cc0_stg2_0) ↦{fullShare} f

end Slots

/-! ## Signals -/

theorem sig_sound (c : Dev nD) (j : Fin 7) (js : List (Fin 7)) (Kt : PUnit → sProp 𝕄) :
    iprop(ctx m K ∗ owe c (owedB c (j :: js))
        ∗ (dutyTok ER (barC (peer c j)) 0 c ∗ slotAny c mRcv (rRcv (peer c j)) ∗ slotAny c mRsc (rRsc (peer c j)))
        ∗ ((owe c (owedB c js) ∗ emp) -∗ Kt ⟨⟩))
      ⊢ WP c (sigP (peer c j)) Kt := by
  unfold sigP owe
  simp only [semSignalWord, Prog.lift, Prog.bind_op, Prog.bind_ret, Prog.pure_eq_ret]
  iintro ⟨#Hc, ⟨%W, HO⟩, ⟨Ht, Hr, Hs⟩, Hk⟩
  iapply (Rounds.wp_signal 𝒱₀ ER (sched m) (c : Thread nD τ) none (dst := (peer c j : Thread nD τ)) (κ := K (peer c j, none))
      (d := c) (by rw [duties_bar]; exact Finset.mem_erase.mpr ⟨(peer_ne c j).symm, Finset.mem_univ _⟩)
      ((amount_bar m (peer c j) c).trans (by decide)) () (owedB c js) rfl) $$ [HO Ht Hr Hs]
  · isplitr; · iapply (inv_bar m K (peer c j)); iexact Hc
    isplitl [HO]; · iexact HO
    isplitl [Ht]; · iexact Ht
    isplitl [Hr Hs]
    · rw [payload_bar]
      isplitl [Hr] <;> iassumption
    iapply (got_bar m K (peer c j)); iexact Hc
  iintro HO
  rw [wp_ret]; imodintro
  iapply Hk
  isplitl [HO]; · iexists W; iexact HO
  iempintro

/-- The wait for the seven peers brings the landing slots each peer keeps for this device. -/
theorem bar_sound (c : Dev nD) (Kt : PUnit → sProp 𝕄) :
    iprop(ctx m K ∗ owe c (owedS c steps) ∗ cred (tallyAt (barC c) () 7) ∗ atPos ER (barC c) 0 ∅ 0
        ∗ ((owe c (owedS c steps) ∗ semVal (barC c) 0
            ∗ bigSep (Finset.univ.erase c) fun d : Fin 8 => iprop(slotAny d mRcv (rRcv c) ∗ slotAny d mRsc (rRsc c))) -∗ Kt ⟨⟩))
      ⊢ WP c barP Kt := by
  unfold barP owe
  simp only [semWaitWord, Prog.lift, Prog.bind_op, Prog.bind_ret, Prog.pure_eq_ret]
  iintro ⟨#Hc, ⟨%W, HO⟩, Hcr, Hat, Hk⟩
  iapply (Rounds.wp_wait_rest_token 𝒱₀ ER (sched m) (c : Thread nD τ) none (κ := K (c, none))
      (wpE_semWait_eq 𝒱₀ (c : Thread nD τ) none Set.univ) (Set.mem_univ _) () (O := owedS c steps) (W := W) (R := 0) (m := 0) (T := ∅)
      (by rw [expect_bar]; decide)) $$ [Hcr HO Hat]
  · isplitr; · iapply (inv_bar m K c); iexact Hc
    isplitl [Hcr]; · iexact Hcr
    isplitl [HO]; · iexact HO
    isplitr; · iapply (mayWait_bar c steps); iapply (ctx_lev m K); iexact Hc
    iexact Hat
  iintro ⟨HO, Hat, -, Hpay⟩
  ihave Hp := (Entails.of_eq (rest_bar m c)) $$ Hpay
  imod (Rounds.cell_close ER (sched m) (Set.mem_univ (K (c, none))) (fun h => h) (R := 0 + 1) (duties_later m (barC c))) $$ [Hat] with Hz
  · isplitr; · iapply (inv_bar m K c); iexact Hc
    iexact Hat
  rw [wp_ret]; imodintro
  iapply Hk
  isplitl [HO]; · iexists _; iexact HO
  isplitl [Hz] <;> iassumption

/-! ## Quantise -/

theorem quant_sound (c p : Dev nD) (j : Fin 7) (Kt : PUnit → sProp 𝕄) :
    iprop(xPts m c ∗ slotAny c mSnd (rSnd j) ∗ slotAny c mSsc (rSsc j)
        ∗ ((xPts m c ∗ slot c mSnd (rSnd j) (k0_pay3 (xrows m c p)) ∗ slot c mSsc (rSsc j) (k0_pay4 (xrows m c p))) -∗ Kt ⟨⟩))
      ⊢ WP c (quant j p) Kt := by
  unfold quant quantP xPts slotAny
  simp only [Prog.lift, Prog.bind_op, Prog.bind_ret, Prog.pure_eq_ret]
  iintro ⟨Hx, ⟨%fb, Hb⟩, ⟨%fs, Hs⟩, Hk⟩
  iapply (wp_load 𝒱₀ (c : Thread nD τ) none Set.univ (m := mX) (Finset.subset_univ _)) $$ Hx; iintro Hx
  iapply (wp_load 𝒱₀ (c : Thread nD τ) none Set.univ (m := mSnd) (load_sub mSnd (rSnd j))) $$ Hb; iintro Hb
  iapply (wp_store 𝒱₀ (c : Thread nD τ) none Set.univ (m := mSnd) (r := rSnd j) (Mk := Finset.univ) (store_sub mSnd (rSnd j))) $$ Hb; iintro Hb
  iapply (wp_load 𝒱₀ (c : Thread nD τ) none Set.univ (m := mSsc) (load_sub mSsc (rSsc j))) $$ Hs; iintro Hs
  iapply (wp_store 𝒱₀ (c : Thread nD τ) none Set.univ (m := mSsc) (r := rSsc j) (Mk := Finset.univ) (store_sub mSsc (rSsc j))) $$ Hs; iintro Hs
  rw [wp_ret]; imodintro
  iapply Hk
  isplitl [Hx]; · iexact Hx
  isplitl [Hb]
  · iapply (slot_stored (F := F) c mSnd (rSnd j) fb (k0_pay3 (xrows m c p))); iexact Hb
  iapply (slot_stored (F := F) c mSsc (rSsc j) fs (k0_pay4 (xrows m c p))); iexact Hs

/-! ## Send -/

theorem set_snd (j : Fin 7) : (snd j).view.set = (mSnd.access (rSnd j)).set :=
  View.set_reshape (v := mSnd.access (rSnd j)) squeezes_S1x512x512_S512x512.numel_eq
theorem set_ssc (j : Fin 7) : (ssc j).view.set = (mSsc.access (rSsc j)).set :=
  View.set_reshape (v := mSsc.access (rSsc j)) squeezes_S1x8x128_S8x128.numel_eq
theorem set_rcv (i : Dev nD) : (rcv i).view.set = (mRcv.access (rRcv i)).set :=
  View.set_reshape (v := mRcv.access (rRcv i)) squeezes_S1x512x512_S512x512.numel_eq
theorem set_rsc (i : Dev nD) : (rsc i).view.set = (mRsc.access (rRsc i)).set :=
  View.set_reshape (v := mRsc.access (rRsc i)) squeezes_S1x8x128_S8x128.numel_eq

/-- The slot a transfer reads, handed back to its owner. -/
theorem give_snd (c : Dev nD) (j : Fin 7) (f : Buf (Elt F) ((snd j).view.loc (c : Thread nD τ))) :
    ((snd j).view.loc (c : Thread nD τ) ↦[(snd j).view.set]{fullShare} f : sProp 𝕄) ⊢ (sched m).payload (outC c j.castSucc) 0 0 := by
  rw [payload_out, set_snd]; unfold slotAny
  iintro H; iexists f; iexact H
theorem give_ssc (c : Dev nD) (j : Fin 7) (f : Buf (Elt F) ((ssc j).view.loc (c : Thread nD τ))) :
    ((ssc j).view.loc (c : Thread nD τ) ↦[(ssc j).view.set]{fullShare} f : sProp 𝕄) ⊢ (sched m).payload (soutC c j.castSucc) 0 0 := by
  rw [payload_sout, set_ssc]; unfold slotAny
  iintro H; iexists f; iexact H

/-- The slot a transfer fills, handed to the device it is on. -/
theorem land_rcv (c d : Dev nD) (j : Fin 7) (f : Buf (Elt F) ((snd j).view.loc (c : Thread nD τ))) (g : Buf (Elt F) ((rcv c).view.loc (d : Thread nD τ)))
    (h : mSnd.view.readAt (Elt F) (rSnd j).toLoadRect f = k0_pay3 (xrows m c d)) :
    ((rcv c).view.loc (d : Thread nD τ) ↦[(rcv c).view.set]{fullShare} (rcv c).view.write (Elt F) g ((snd j).view.read (Elt F) f) Finset.univ : sProp 𝕄)
      ⊢ (sched m).payload (inC d c) 0 0 := by
  rw [payload_in, set_rcv]; unfold slot
  iintro H; iexists _
  isplitr
  rotate_left
  · iexact H
  ipureintro
  exact (land (mSnd.access (rSnd j)) (mRcv.access (rRcv c)) squeezes_S1x512x512_S512x512.numel_eq squeezes_S1x512x512_S512x512.numel_eq f g).trans h
theorem land_rsc (c d : Dev nD) (j : Fin 7) (f : Buf (Elt F) ((ssc j).view.loc (c : Thread nD τ))) (g : Buf (Elt F) ((rsc c).view.loc (d : Thread nD τ)))
    (h : mSsc.view.readAt (Elt F) (rSsc j).toLoadRect f = k0_pay4 (xrows m c d)) :
    ((rsc c).view.loc (d : Thread nD τ) ↦[(rsc c).view.set]{fullShare} (rsc c).view.write (Elt F) g ((ssc j).view.read (Elt F) f) Finset.univ : sProp 𝕄)
      ⊢ (sched m).payload (sinC d c) 0 0 := by
  rw [payload_sin, set_rsc]; unfold slot
  iintro H; iexists _
  isplitr
  rotate_left
  · iexact H
  ipureintro
  exact (land (mSsc.access (rSsc j)) (mRsc.access (rRsc c)) squeezes_S1x8x128_S8x128.numel_eq squeezes_S1x8x128_S8x128.numel_eq f g).trans h

theorem send_sound (c : Dev nD) (j : Fin 7) (js : List (Fin 7)) (Kt : PUnit → sProp 𝕄) :
    iprop(ctx m K ∗ owe c (owedS c (j :: js))
        ∗ (slot c mSnd (rSnd j) (k0_pay3 (xrows m c (peer c j))) ∗ slot c mSsc (rSsc j) (k0_pay4 (xrows m c (peer c j))))
        ∗ (slotAny (peer c j) mRcv (rRcv c) ∗ slotAny (peer c j) mRsc (rRsc c))
        ∗ (dutyTok ER (outC c j.castSucc) 0 0 ∗ dutyTok ER (soutC c j.castSucc) 0 0
          ∗ dutyTok ER (inC (peer c j) c) 0 0 ∗ dutyTok ER (sinC (peer c j) c) 0 0)
        ∗ ((owe c (owedS c js) ∗ (cred (tallyAt (outC c j.castSucc) () NB) ∗ cred (tallyAt (soutC c j.castSucc) () NS))) -∗ Kt ⟨⟩))
      ⊢ WP c (send c j) Kt := by
  unfold send sendP owe slot slotAny
  simp only [Prog.lift, Prog.bind_op, Prog.bind_ret, Prog.pure_eq_ret]
  rw [← set_snd, ← set_ssc, ← set_rcv, ← set_rsc]
  iintro ⟨#Hc, ⟨%W, HO⟩, ⟨⟨%fb, %hb, Hb⟩, ⟨%fs, %hs, Hs⟩⟩, ⟨⟨%gb, Gb⟩, ⟨%gs, Gs⟩⟩, ⟨Tb, Ts, Ub, Us⟩, Hk⟩
  have ne := (peer_ne c j).symm
  iapply (Rounds.wp_send_pointsTo 𝒱₀ ER (sched m) (c : Thread nD τ) none (c' := (peer c j : Thread nD τ)) (src := ssc j) (dst := rsc c)
    (κ₁ := K (c, some (2, j.castSucc))) (κ₂ := K (peer c j, some (3, c)))
    (r₁ := 0) (r₂ := 0) (d₁ := 0) (d₂ := 0) (fs := fs) (fd := gs)
    (by rw [duties_sout]; exact Finset.mem_singleton_self _) (by rw [duties_sin m _ ne]; exact Finset.mem_singleton_self _)
    () () NS rfl (amount_sout m c j.castSucc 0) (amount_sin m (peer c j) c 0) (owedS c js + tallyAt (inC (peer c j) c) () NB) rfl (W := W)
    (give_ssc m c j fs) (land_rsc m c (peer c j) j fs gs hs)) $$ [Hs Gs HO Ts Us]
  · isplitr; · iapply (inv_sout m K c j.castSucc); iexact Hc
    isplitr; · iapply (inv_sin m K (peer c j) c); iexact Hc
    isplitl [Hs]; · iexact Hs
    isplitl [Gs]; · iexact Gs
    isplitl [HO]; · iexact HO
    isplitl [Ts]; · iexact Ts
    isplitr; · iapply (got_sout m K c j.castSucc); iexact Hc
    isplitl [Us]; · iexact Us
    iapply (got_sin m K (peer c j) c); iexact Hc
  iintro ⟨Cs, HO⟩
  iapply (Rounds.wp_send_pointsTo 𝒱₀ ER (sched m) (c : Thread nD τ) none (c' := (peer c j : Thread nD τ)) (src := snd j) (dst := rcv c)
    (κ₁ := K (c, some (0, j.castSucc))) (κ₂ := K (peer c j, some (1, c)))
    (r₁ := 0) (r₂ := 0) (d₁ := 0) (d₂ := 0) (fs := fb) (fd := gb)
    (by rw [duties_out]; exact Finset.mem_singleton_self _) (by rw [duties_in m _ ne]; exact Finset.mem_singleton_self _)
    () () NB rfl (amount_out m c j.castSucc 0) (amount_in m (peer c j) c 0) (owedS c js) rfl (W := W)
    (give_snd m c j fb) (land_rcv m c (peer c j) j fb gb hb)) $$ [Hb Gb HO Tb Ub]
  · isplitr; · iapply (inv_out m K c j.castSucc); iexact Hc
    isplitr; · iapply (inv_in m K (peer c j) c); iexact Hc
    isplitl [Hb]; · iexact Hb
    isplitl [Gb]; · iexact Gb
    isplitl [HO]; · iexact HO
    isplitl [Tb]; · iexact Tb
    isplitr; · iapply (got_out m K c j.castSucc); iexact Hc
    isplitl [Ub]; · iexact Ub
    iapply (got_in m K (peer c j) c); iexact Hc
  iintro ⟨Cb, HO⟩
  rw [wp_ret]; imodintro
  iapply Hk
  isplitl [HO]; · iexists W; iexact HO
  isplitl [Cb] <;> iassumption

end Cert.KernelIdealProof

end
-- ==== Proof.KernelIdealTakes.lean ====
/-
# Taking the blocks

The stage that multiplies the block that stays, the stage that takes one arriving block, and the stage that drains one
step's sends; and what they leave in the result.
-/
module

public import proofs.«01_k».proof.Proof.KernelIdealSteps

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

/-! ## What the result holds -/

set_option backward.proofsInPublic true in
/-- The one entry a load of one element of a scale block reads. -/
def upIdx (x : S1x1x1.Idx) : S1x8x128.Idx :=
  fun a => ⟨(x a).val, Nat.lt_of_lt_of_le (x a).isLt ((by decide : ∀ a : Fin 3, S1x1x1.size a ≤ S1x8x128.size a) a)⟩

/-- The scale in a scale block. -/
def scaleOf (v : Vec F S1x8x128 .f32) : Vec F S1x1x1 .f32 := fun x => v (upIdx x)

/-- The result with one more block's product added: device `s`'s block, quantised there and scaled back here. -/
def addBlk (c s : Dev nD) (a : Vec F S512x2048 .f32) : Vec F S512x2048 .f32 :=
  k0_pay35 (scaleOf (k0_pay4 (xrows m s c))) a (k0_pay3 (xrows m s c)) (wrows m c s)

/-- The result after the blocks of a list of steps. -/
def addAll (c : Dev nD) : List (Fin 7) → Vec F S512x2048 .f32 → Vec F S512x2048 .f32
  | [], a => a
  | k :: ks, a => addAll c ks (addBlk m c (src c k) a)

theorem addAll_cons (c : Dev nD) (k : Fin 7) (ks : List (Fin 7)) (a : Vec F S512x2048 .f32) :
    addAll m c (k :: ks) a = addAll m c ks (addBlk m c (src c k) a) := rfl

/-- What the kernel leaves in its result on device `c`. -/
def outAt (c : Dev nD) : Vec F S512x2048 .f32 := addAll m c steps (k0_pay31 (xrows m c c) (wrows m c c))

/-! ## Reads and writes -/

theorem hz2 : (![0, 0] : Fin 2 → Nat) = fun _ => 0 := funext fun a => by fin_cases a <;> rfl
theorem read_out (f : (cc0_stg2_0 : Ref sig .tc).ty.Contents (Elt F)) : mO.view.readAt (Elt F) rO.toLoadRect f = f :=
  Memref.readAt_unit_zero (Elt F) cc0_stg2_0 hz2 _ f
theorem write_out (f w : (cc0_stg2_0 : Ref sig .tc).ty.Contents (Elt F)) :
    (mO.access rO : View sig .tc _ _ _).write (Elt F) f w Finset.univ = w :=
  Memref.write_access_unit_zero_univ (Elt F) cc0_stg2_0 hz2 _ f w

theorem one_emb (i : Dev nD) (x : S1x1x1.Idx) : (rOne i).emb x = (rRsc i).emb (upIdx x) :=
  funext fun a => Fin.ext rfl

theorem read_one (i : Dev nD) (f : (cc0_scratch3 : Ref sig .tc).ty.Contents (Elt F)) :
    mRsc.view.readAt (Elt F) (rOne i).toLoadRect f = scaleOf (mRsc.view.readAt (Elt F) (rRsc i).toLoadRect f) := by
  funext x
  show mRsc.view.read (Elt F) f ((rOne i).emb x) = mRsc.view.read (Elt F) f ((rRsc i).emb (upIdx x))
  rw [one_emb]

theorem one_sub (i : Dev nD) : mRsc.view.setOn (rOne i).toLoadRect.set ⊆ (mRsc.access (rRsc i)).set := by
  rw [View.set_slice]
  refine Finset.map_subset_map.mpr fun y hy => ?_
  have hy' : y ∈ (rOne i).set := hy
  rw [← Rect.map_emb_univ] at hy'
  obtain ⟨x, -, rfl⟩ := Finset.mem_map.mp hy'
  rw [← Rect.map_emb_univ, one_emb]
  exact Finset.mem_map_of_mem _ (Finset.mem_univ _)

/-! ## The stages -/

theorem own_sound (c : Dev nD) (Kt : PUnit → sProp 𝕄) :
    iprop(xPts m c ∗ wPts m c ∗ (∃ f, oPts c f)
        ∗ ((xPts m c ∗ wPts m c ∗ oPts c (k0_pay31 (xrows m c c) (wrows m c c))) -∗ Kt ⟨⟩))
      ⊢ WP c (own c) Kt := by
  unfold own ownP xPts wPts oPts
  simp only [Prog.lift, Prog.bind_op, Prog.bind_ret, Prog.pure_eq_ret]
  iintro ⟨Hx, Hw, ⟨%f, Ho⟩, Hk⟩
  iapply (wp_load 𝒱₀ (c : Thread nD τ) none Set.univ (m := mX) (Finset.subset_univ _)) $$ Hx; iintro Hx
  iapply (wp_load 𝒱₀ (c : Thread nD τ) none Set.univ (m := mW) (Finset.subset_univ _)) $$ Hw; iintro Hw
  iapply (wp_load 𝒱₀ (c : Thread nD τ) none Set.univ (m := mO) (Finset.subset_univ _)) $$ Ho; iintro Ho
  iapply (wp_store 𝒱₀ (c : Thread nD τ) none Set.univ (m := mO) (r := rO) (Mk := Finset.univ) (Finset.subset_univ _)) $$ Ho; iintro Ho
  rw [write_out, wp_ret]; imodintro
  iapply Hk
  isplitl [Hx]; · iexact Hx
  isplitl [Hw]; · iexact Hw
  iexact Ho

/-- What the steps still to take start from: the weights, nothing owed, and a result that these steps complete. -/
def taking (c : Dev nD) (ks : List (Fin 7)) : sProp 𝕄 :=
  iprop(owe c 0 ∗ wPts m c ∗ ∃ a, ⌜addAll m c ks a = outAt m c⌝ ∗ oPts c a)

theorem recv_sound (c : Dev nD) (k : Fin 7) (ks : List (Fin 7)) (Kt : PUnit → sProp 𝕄) :
    iprop(ctx m K ∗ taking m c (k :: ks)
        ∗ ((cred (tallyAt (inC c (src c k)) () NB) ∗ cred (tallyAt (sinC c (src c k)) () NS))
          ∗ (atPos ER (inC c (src c k)) 0 ∅ 0 ∗ atPos ER (sinC c (src c k)) 0 ∅ 0))
        ∗ ((taking m c ks ∗ ((slotAny c mRcv (rRcv (src c k)) ∗ slotAny c mRsc (rRsc (src c k)))
          ∗ (semVal (inC c (src c k)) 0 ∗ semVal (sinC c (src c k)) 0))) -∗ Kt ⟨⟩))
      ⊢ WP c (recv (src c k)) Kt := by
  have ne := src_ne c k
  unfold taking
  simp only [addAll_cons]
  generalize src c k = s at ne ⊢
  unfold recv recvP owe wPts oPts
  simp only [Prog.lift, Prog.bind_op, Prog.bind_ret, Prog.pure_eq_ret]
  iintro ⟨#Hc, ⟨⟨%W, HO⟩, Hw, ⟨%a, %ha, Ho⟩⟩, ⟨⟨Cb, Cs⟩, ⟨Ab, As⟩⟩, Hk⟩
  iapply (Rounds.wp_wait_rest_token 𝒱₀ ER (sched m) (c : Thread nD τ) none (κ := K (c, some (3, s)))
      (wpE_waitDma2_eq 𝒱₀ (c : Thread nD τ) none Set.univ) (Set.mem_univ _) () (O := 0) (W := W) (R := 0) (m := 0) (T := ∅)
      (by rw [Nat.zero_add]; exact (expect_sin m c ne).symm)) $$ [Cs HO As]
  · isplitr; · iapply (inv_sin m K c s); iexact Hc
    isplitl [Cs]; · iexact Cs
    isplitl [HO]; · iexact HO
    isplitr; · rw [MayWait_zero]; iempintro
    iexact As
  iintro ⟨HO, As, -, Hpay⟩
  ihave Hs := (Entails.of_eq (rest_sin m c ne)) $$ Hpay
  iapply (Rounds.wp_wait_rest_token 𝒱₀ ER (sched m) (c : Thread nD τ) none (κ := K (c, some (1, s)))
      (wpE_waitDma2_eq 𝒱₀ (c : Thread nD τ) none Set.univ) (Set.mem_univ _) () (O := 0) (R := 0) (m := 0) (T := ∅)
      (by rw [Nat.zero_add]; exact (expect_in m c ne).symm)) $$ [Cb HO Ab]
  · isplitr; · iapply (inv_in m K c s); iexact Hc
    isplitl [Cb]; · iexact Cb
    isplitl [HO]; · iexact HO
    isplitr; · rw [MayWait_zero]; iempintro
    iexact Ab
  iintro ⟨HO, Ab, -, Hpay⟩
  ihave Hb := (Entails.of_eq (rest_in m c ne)) $$ Hpay
  imod (Rounds.cell_close ER (sched m) (Set.mem_univ (K (c, some (3, s)))) (fun h => h) (R := 0 + 1) (duties_later m (sinC c s))) $$ [As] with Zs
  · isplitr; · iapply (inv_sin m K c s); iexact Hc
    iexact As
  imod (Rounds.cell_close ER (sched m) (Set.mem_univ (K (c, some (1, s)))) (fun h => h) (R := 0 + 1) (duties_later m (inC c s))) $$ [Ab] with Zb
  · isplitr; · iapply (inv_in m K c s); iexact Hc
    iexact Ab
  unfold slot slotAny
  icases Hs with ⟨%fs, %hs, Hs⟩
  icases Hb with ⟨%fb, %hb, Hb⟩
  iapply (wp_load 𝒱₀ (c : Thread nD τ) none Set.univ (m := mRsc) (one_sub s)) $$ Hs; iintro Hs
  iapply (wp_load 𝒱₀ (c : Thread nD τ) none Set.univ (m := mO) (Finset.subset_univ _)) $$ Ho; iintro Ho
  iapply (wp_load 𝒱₀ (c : Thread nD τ) none Set.univ (m := mRcv) (load_sub mRcv (rRcv s))) $$ Hb; iintro Hb
  iapply (wp_load 𝒱₀ (c : Thread nD τ) none Set.univ (m := mW) (Finset.subset_univ _)) $$ Hw; iintro Hw
  iapply (wp_load 𝒱₀ (c : Thread nD τ) none Set.univ (m := mO) (Finset.subset_univ _)) $$ Ho; iintro Ho
  iapply (wp_store 𝒱₀ (c : Thread nD τ) none Set.univ (m := mO) (r := rO) (Mk := Finset.univ) (Finset.subset_univ _)) $$ Ho; iintro Ho
  rw [write_out, read_one, read_out, hs, hb, wp_ret]; imodintro
  iapply Hk
  isplitl [HO Hw Ho]
  · isplitl [HO]; · iexists _; iexact HO
    isplitl [Hw]; · iexact Hw
    iexists (addBlk m c s a)
    isplitr; · ipureintro; exact ha
    iexact Ho
  isplitl [Hb Hs]
  · isplitl [Hb]; · iexists fb; iexact Hb
    iexists fs; iexact Hs
  isplitl [Zb] <;> iassumption

theorem drain_sound (c : Dev nD) (j : Fin 7) (js : List (Fin 7)) (Kt : PUnit → sProp 𝕄) :
    iprop(ctx m K ∗ owe c 0
        ∗ ((cred (tallyAt (outC c j.castSucc) () NB) ∗ cred (tallyAt (soutC c j.castSucc) () NS))
          ∗ (atPos ER (outC c j.castSucc) 0 ∅ 0 ∗ atPos ER (soutC c j.castSucc) 0 ∅ 0))
        ∗ ((owe c 0 ∗ ((slotAny c mSnd (rSnd j) ∗ slotAny c mSsc (rSsc j))
          ∗ (semVal (outC c j.castSucc) 0 ∗ semVal (soutC c j.castSucc) 0))) -∗ Kt ⟨⟩))
      ⊢ WP c (drain c j) Kt := by
  unfold drain drainP owe
  simp only [Prog.lift, Prog.bind_op, Prog.bind_ret, Prog.pure_eq_ret]
  iintro ⟨#Hc, ⟨%W, HO⟩, ⟨⟨Cb, Cs⟩, ⟨Ab, As⟩⟩, Hk⟩
  iapply (Rounds.wp_wait_rest_token 𝒱₀ ER (sched m) (c : Thread nD τ) none (κ := K (c, some (2, j.castSucc)))
      (wpE_waitDma2_eq 𝒱₀ (c : Thread nD τ) none Set.univ) (Set.mem_univ _) () (O := 0) (W := W) (R := 0) (m := 0) (T := ∅)
      (by rw [Nat.zero_add]; exact (expect_sout m c j).symm)) $$ [Cs HO As]
  · isplitr; · iapply (inv_sout m K c j.castSucc); iexact Hc
    isplitl [Cs]; · iexact Cs
    isplitl [HO]; · iexact HO
    isplitr; · rw [MayWait_zero]; iempintro
    iexact As
  iintro ⟨HO, As, -, Hpay⟩
  ihave Hs := (Entails.of_eq (rest_sout m c j)) $$ Hpay
  iapply (Rounds.wp_wait_rest_token 𝒱₀ ER (sched m) (c : Thread nD τ) none (κ := K (c, some (0, j.castSucc)))
      (wpE_waitDma2_eq 𝒱₀ (c : Thread nD τ) none Set.univ) (Set.mem_univ _) () (O := 0) (R := 0) (m := 0) (T := ∅)
      (by rw [Nat.zero_add]; exact (expect_out m c j).symm)) $$ [Cb HO Ab]
  · isplitr; · iapply (inv_out m K c j.castSucc); iexact Hc
    isplitl [Cb]; · iexact Cb
    isplitl [HO]; · iexact HO
    isplitr; · rw [MayWait_zero]; iempintro
    iexact Ab
  iintro ⟨HO, Ab, -, Hpay⟩
  ihave Hb := (Entails.of_eq (rest_out m c j)) $$ Hpay
  imod (Rounds.cell_close ER (sched m) (Set.mem_univ (K (c, some (2, j.castSucc)))) (fun h => h) (R := 0 + 1) (duties_later m (soutC c j.castSucc))) $$ [As] with Zs
  · isplitr; · iapply (inv_sout m K c j.castSucc); iexact Hc
    iexact As
  imod (Rounds.cell_close ER (sched m) (Set.mem_univ (K (c, some (0, j.castSucc)))) (fun h => h) (R := 0 + 1) (duties_later m (outC c j.castSucc))) $$ [Ab] with Zb
  · isplitr; · iapply (inv_out m K c j.castSucc); iexact Hc
    iexact Ab
  rw [wp_ret]; imodintro
  iapply Hk
  isplitl [HO]; · iexists _; iexact HO
  isplitl [Hb Hs]
  · isplitl [Hb] <;> iassumption
  isplitl [Zb] <;> iassumption

end Cert.KernelIdealProof

end
-- ==== Proof.KernelIdealDevice.lean ====
/-
# A device's whole line

The stages put together: from what a device holds at launch to what it leaves.
-/
module

public import proofs.«01_k».proof.Proof.KernelIdealTakes

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

/-! ## Lists of resources -/

theorem bigSepL_zip {I : Type} (Φ Ψ : I → sProp 𝕄) : ∀ l : List I, iprop(bigSepL l Φ ∗ bigSepL l Ψ) ⊢ bigSepL l fun i => iprop(Φ i ∗ Ψ i)
  | [] => by rw [bigSepL_nil, bigSepL_nil, bigSepL_nil]; iintro ⟨-, -⟩; iempintro
  | i :: l => by
    rw [bigSepL_cons', bigSepL_cons', bigSepL_cons']
    iintro ⟨⟨H1, H2⟩, ⟨H3, H4⟩⟩
    isplitl [H1 H3]
    · isplitl [H1] <;> iassumption
    iapply (bigSepL_zip Φ Ψ l)
    isplitl [H2] <;> iassumption

theorem erase_peers : ∀ c : Dev nD, (Finset.univ.erase c : Finset (Dev nD)) = (steps.map (peer c)).toFinset := by decide +kernel
theorem nodup_peers : ∀ c : Dev nD, (steps.map (peer c)).Nodup := by decide +kernel
theorem erase_srcs : ∀ c : Dev nD, (Finset.univ.erase c : Finset (Dev nD)) = (steps.map (src c)).toFinset := by decide +kernel
theorem nodup_srcs : ∀ c : Dev nD, (steps.map (src c)).Nodup := by decide +kernel

/-- All other devices are the peers of the seven steps, -/
theorem others_peers (c : Dev nD) (Φ : Dev nD → sProp 𝕄) : bigSep (Finset.univ.erase c) Φ = bigSepL steps fun j => Φ (peer c j) := by
  rw [bigSep_eq_bigSepL_of_eq _ (erase_peers c) (nodup_peers c), bigSepL_map]
/-- and they are the sources of the seven steps. -/
theorem others_srcs (c : Dev nD) (Φ : Dev nD → sProp 𝕄) : bigSep (Finset.univ.erase c) Φ = bigSepL steps fun j => Φ (src c j) := by
  rw [bigSep_eq_bigSepL_of_eq _ (erase_srcs c) (nodup_srcs c), bigSepL_map]

/-! ## What a step holds -/

/-- What the signal of step `j` needs. -/
def sigRes (c : Dev nD) (j : Fin 7) : sProp 𝕄 :=
  iprop(dutyTok ER (barC (peer c j)) 0 c ∗ slotAny c mRcv (rRcv (peer c j)) ∗ slotAny c mRsc (rRsc (peer c j)))
/-- The two send slots of step `j`. -/
def sndSlots (c : Dev nD) (j : Fin 7) : sProp 𝕄 := iprop(slotAny c mSnd (rSnd j) ∗ slotAny c mSsc (rSsc j))
/-- The two landing slots for device `s`. -/
def rcvSlots (c s : Dev nD) : sProp 𝕄 := iprop(slotAny c mRcv (rRcv s) ∗ slotAny c mRsc (rRsc s))
/-- The duties the sends of step `j` pay. -/
def sndToks (c : Dev nD) (j : Fin 7) : sProp 𝕄 :=
  iprop(dutyTok ER (outC c j.castSucc) 0 0 ∗ dutyTok ER (soutC c j.castSucc) 0 0
    ∗ dutyTok ER (inC (peer c j) c) 0 0 ∗ dutyTok ER (sinC (peer c j) c) 0 0)
/-- What taking device `s`'s block needs. -/
def rcvRes (c s : Dev nD) : sProp 𝕄 :=
  iprop((cred (tallyAt (inC c s) () NB) ∗ cred (tallyAt (sinC c s) () NS))
    ∗ (atPos ER (inC c s) 0 ∅ 0 ∗ atPos ER (sinC c s) 0 ∅ 0))
def outCred (c : Dev nD) (j : Fin 7) : sProp 𝕄 :=
  iprop(cred (tallyAt (outC c j.castSucc) () NB) ∗ cred (tallyAt (soutC c j.castSucc) () NS))
def outPos (c : Dev nD) (j : Fin 7) : sProp 𝕄 :=
  iprop(atPos ER (outC c j.castSucc) 0 ∅ 0 ∗ atPos ER (soutC c j.castSucc) 0 ∅ 0)
def rcvEnd (c s : Dev nD) : sProp 𝕄 := iprop(rcvSlots c s ∗ (semVal (inC c s) 0 ∗ semVal (sinC c s) 0))
def sndEnd (c : Dev nD) (j : Fin 7) : sProp 𝕄 :=
  iprop(sndSlots c j ∗ (semVal (outC c j.castSucc) 0 ∗ semVal (soutC c j.castSucc) 0))

/-! ## The runs of stages -/

theorem sigs_sound (c : Dev nD) (Kt : PUnit → sProp 𝕄) :
    iprop(ctx m K ∗ owe c (owedB c steps) ∗ bigSepL steps (sigRes c) ∗ ((owe c (owedS c steps) ∗ bigSepL steps fun _ => iprop(emp)) -∗ Kt ⟨⟩))
      ⊢ WP c (seqL (fun j => sigP (peer c j)) steps) Kt :=
  seq_sound (ctx m K) c (fun j => sigP (peer c j)) (fun js => owe c (owedB c js)) (sigRes c) (fun _ => iprop(emp))
    (fun j js Kt => sig_sound m K c j js Kt) steps Kt

/-- One step's quantising and sending. -/
theorem move_sound (c : Dev nD) (j : Fin 7) (js : List (Fin 7)) (Kt : PUnit → sProp 𝕄) :
    iprop(ctx m K ∗ (xPts m c ∗ owe c (owedS c (j :: js))) ∗ (sndSlots c j ∗ rcvSlots (peer c j) c ∗ sndToks c j)
        ∗ (((xPts m c ∗ owe c (owedS c js)) ∗ outCred c j) -∗ Kt ⟨⟩))
      ⊢ WP c (quant j (peer c j) >>= fun _ => send c j) Kt := by
  unfold WP sndSlots rcvSlots sndToks outCred
  rw [wp_bind]
  iintro ⟨#Hc, ⟨Hx, HO⟩, ⟨⟨Hb, Hs⟩, Hl, Ht⟩, Hk⟩
  iapply (quant_sound m c (peer c j) j _)
  isplitl [Hx]; · iexact Hx
  isplitl [Hb]; · iexact Hb
  isplitl [Hs]; · iexact Hs
  iintro ⟨Hx, Hb, Hs⟩
  iapply (send_sound m K c j js Kt)
  isplitr; · iexact Hc
  isplitl [HO]; · iexact HO
  isplitl [Hb Hs]
  · isplitl [Hb] <;> iassumption
  isplitl [Hl]; · iexact Hl
  isplitl [Ht]; · iexact Ht
  iintro ⟨HO, Hcr⟩
  iapply Hk
  isplitl [Hx HO]
  · isplitl [Hx] <;> iassumption
  iexact Hcr

theorem moves_sound (c : Dev nD) (js : List (Fin 7)) (Kt : PUnit → sProp 𝕄) :
    iprop(ctx m K ∗ (xPts m c ∗ owe c (owedS c js)) ∗ bigSepL js (fun j => iprop(sndSlots c j ∗ rcvSlots (peer c j) c ∗ sndToks c j))
        ∗ (((xPts m c ∗ owe c 0) ∗ bigSepL js (outCred c)) -∗ Kt ⟨⟩))
      ⊢ WP c (seqL (fun j => quant j (peer c j) >>= fun _ => send c j) js) Kt :=
  seq_sound (ctx m K) c _ (fun js => iprop(xPts m c ∗ owe c (owedS c js))) _ (outCred c) (fun j js Kt => move_sound m K c j js Kt) js Kt

theorem recvs_sound (c : Dev nD) (Kt : PUnit → sProp 𝕄) :
    iprop(ctx m K ∗ taking m c steps ∗ bigSepL steps (fun k => rcvRes c (src c k)) ∗ ((taking m c [] ∗ bigSepL steps fun k => rcvEnd c (src c k)) -∗ Kt ⟨⟩))
      ⊢ WP c (seqL (fun k => recv (src c k)) steps) Kt :=
  seq_sound (ctx m K) c _ (taking m c) _ (fun k => rcvEnd c (src c k)) (fun k ks Kt => recv_sound m K c k ks Kt) steps Kt

theorem drains_sound (c : Dev nD) (Kt : PUnit → sProp 𝕄) :
    iprop(ctx m K ∗ owe c 0 ∗ bigSepL steps (fun j => iprop(outCred c j ∗ outPos c j)) ∗ ((owe c 0 ∗ bigSepL steps (sndEnd c)) -∗ Kt ⟨⟩))
      ⊢ WP c (seqL (drain c) steps) Kt :=
  seq_sound (ctx m K) c (drain c) (fun _ => owe c 0) _ (sndEnd c) (fun j js Kt => drain_sound m K c j js Kt) steps Kt

/-! ## The device -/

/-- What a device needs beside the context and its result's old contents. -/
def devRes (c : Dev nD) : sProp 𝕄 :=
  iprop(cred (tallyAt (barC c) () 7) ∗ atPos ER (barC c) 0 ∅ 0 ∗ bigSepL steps (sigRes c) ∗ bigSepL steps (sndSlots c)
    ∗ bigSepL steps (sndToks c) ∗ bigSepL steps (fun k => rcvRes c (src c k)) ∗ bigSepL steps (outPos c))

def devEnd (c : Dev nD) : sProp 𝕄 :=
  iprop(semVal (barC c) 0 ∗ bigSepL steps (fun k => rcvEnd c (src c k)) ∗ bigSepL steps (sndEnd c))

theorem device_sound (c : Dev nD) (Kt : PUnit → sProp 𝕄) :
    iprop(ctx m K ∗ owe c (owedB c steps) ∗ xPts m c ∗ wPts m c ∗ (∃ f, oPts c f) ∗ devRes c
        ∗ ((owe c 0 ∗ xPts m c ∗ wPts m c ∗ oPts c (outAt m c) ∗ devEnd c) -∗ Kt ⟨⟩))
      ⊢ WP c (device c) Kt := by
  unfold WP device devRes devEnd
  simp only [wp_bind]
  iintro ⟨#Hc, HO, Hx, Hw, Ho, ⟨Hcr, Hat, Hsig, Hsnd, Htok, Hrcv, Hpos⟩, Hk⟩
  iapply (sigs_sound m K c _)
  isplitr; · iexact Hc
  isplitl [HO]; · iexact HO
  isplitl [Hsig]; · iexact Hsig
  iintro ⟨HO, -⟩
  ihave Hsnd := (Entails.of_eq (bigSepL_cons' (0 : Fin 7) [1, 2, 3, 4, 5, 6] (sndSlots (F := F) c))) $$ Hsnd
  icases Hsnd with ⟨Hsnd0, Hsnd⟩
  unfold sndSlots
  icases Hsnd0 with ⟨Hb, Hs⟩
  iapply (quant_sound m c (peer c 0) 0 _)
  isplitl [Hx]; · iexact Hx
  isplitl [Hb]; · iexact Hb
  isplitl [Hs]; · iexact Hs
  iintro ⟨Hx, Hb, Hs⟩
  iapply (bar_sound m K c _)
  isplitr; · iexact Hc
  isplitl [HO]; · iexact HO
  isplitl [Hcr]; · iexact Hcr
  isplitl [Hat]; · iexact Hat
  iintro ⟨HO, Hz, Hland⟩
  ihave Hland := (Entails.of_eq (others_peers c fun d => iprop(slotAny d mRcv (rRcv c) ∗ slotAny d mRsc (rRsc c)))) $$ Hland
  ihave Hland := (Entails.of_eq (bigSepL_cons' (0 : Fin 7) [1, 2, 3, 4, 5, 6] fun j => iprop(slotAny (F := F) (peer c j) mRcv (rRcv c) ∗ slotAny (peer c j) mRsc (rRsc c)))) $$ Hland
  icases Hland with ⟨Hl0, Hland⟩
  ihave Htok := (Entails.of_eq (bigSepL_cons' (0 : Fin 7) [1, 2, 3, 4, 5, 6] (sndToks (F := F) c))) $$ Htok
  icases Htok with ⟨Ht0, Htok⟩
  unfold sndToks
  iapply (send_sound m K c 0 [1, 2, 3, 4, 5, 6] _)
  isplitr; · iexact Hc
  isplitl [HO]; · iexact HO
  isplitl [Hb Hs]
  · isplitl [Hb] <;> iassumption
  isplitl [Hl0]; · iexact Hl0
  isplitl [Ht0]; · iexact Ht0
  iintro ⟨HO, Hcr0⟩
  iapply (moves_sound m K c [1, 2, 3, 4, 5, 6] _)
  isplitr; · iexact Hc
  isplitl [Hx HO]
  · isplitl [Hx] <;> iassumption
  isplitl [Hsnd Hland Htok]
  · iapply (bigSepL_zip (F := F) (sndSlots c) (fun j => iprop(rcvSlots (peer c j) c ∗ sndToks c j)) [1, 2, 3, 4, 5, 6])
    isplitl [Hsnd]; · iexact Hsnd
    iapply (bigSepL_zip (F := F) (fun j => rcvSlots (peer c j) c) (sndToks c) [1, 2, 3, 4, 5, 6])
    isplitl [Hland]; · iexact Hland
    iexact Htok
  iintro ⟨⟨Hx, HO⟩, Hcrs⟩
  iapply (own_sound m c _)
  isplitl [Hx]; · iexact Hx
  isplitl [Hw]; · iexact Hw
  isplitl [Ho]; · iexact Ho
  iintro ⟨Hx, Hw, Ho⟩
  iapply (recvs_sound m K c _)
  isplitr; · iexact Hc
  isplitl [HO Hw Ho]
  · unfold taking
    isplitl [HO]; · iexact HO
    isplitl [Hw]; · iexact Hw
    iexists _
    isplitr
    rotate_left
    · iexact Ho
    ipureintro; rfl
  isplitl [Hrcv]; · iexact Hrcv
  unfold taking
  iintro ⟨⟨HO, Hw, ⟨%a, %ha, Ho⟩⟩, Hrend⟩
  have ha' : a = outAt m c := ha
  subst ha'
  iapply (drains_sound m K c Kt)
  isplitr; · iexact Hc
  isplitl [HO]; · iexact HO
  isplitl [Hcr0 Hcrs Hpos]
  · iapply (bigSepL_zip (F := F) (outCred c) (outPos c) steps)
    isplitl [Hcr0 Hcrs]
    · iapply (Entails.of_eq (bigSepL_cons' (0 : Fin 7) [1, 2, 3, 4, 5, 6] (outCred (F := F) c)).symm)
      isplitl [Hcr0]; · unfold outCred; iexact Hcr0
      iexact Hcrs
    iexact Hpos
  iintro ⟨HO, Hsend⟩
  iapply Hk
  isplitl [HO]; · iexact HO
  isplitl [Hx]; · iexact Hx
  isplitl [Hw]; · iexact Hw
  isplitl [Ho]; · iexact Ho
  isplitl [Hz]; · iexact Hz
  isplitl [Hrend]; · iexact Hrend
  iexact Hsend

end Cert.KernelIdealProof

end
-- ==== Proof.KernelIdealHoldings.lean ====
/-
# From the launch's holdings to the stages' and back

What the launch deals a device — one position per semaphore, four whole scratch buffers, one credit per semaphore — cut
into what each step of the exchange holds, and put together again at the end.
-/
module

public import proofs.«01_k».proof.Proof.KernelIdealDevice
public import Mathlib.Tactic.Ring

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F]

local notation "𝕄" => MT nD τ sig Unit (Elt F) ℕ UU ℕ

variable (m : (ℓ : Loc nD τ sig) → Buf (Elt F) ℓ) (K : Dev nD × CI → ℕ)

/-! ## All steps, all semaphores -/

theorem all_steps (Φ : Fin 7 → sProp 𝕄) : bigSep Finset.univ Φ = bigSepL steps Φ :=
  bigSep_univ_eq_bigSepL steps (by decide) (by decide) Φ

theorem steps_sep (Φ Ψ : Fin 7 → sProp 𝕄) : bigSepL steps (fun j => iprop(Φ j ∗ Ψ j)) = iprop(bigSepL steps Φ ∗ bigSepL steps Ψ) := by
  rw [← all_steps, bigSep_sep', all_steps, all_steps]

theorem same {P Q : sProp 𝕄} (h : P ⊢ Q) (h' : Q ⊢ P) : P = Q := BI.Entails.antisymm h h'

theorem all_out (Φ : Fin 8 → sProp 𝕄) : bigSep Finset.univ Φ = iprop((bigSepL steps fun j => Φ j.castSucc) ∗ Φ 7) := by
  rw [bigSep_univ_at Φ 7, bigSep_eq_bigSepL_of_eq (steps.map Fin.castSucc) (by decide) (by decide), bigSepL_map]
  refine same ?_ ?_
  · iintro ⟨H1, H2⟩; isplitl [H2] <;> iassumption
  · iintro ⟨H1, H2⟩; isplitl [H2] <;> iassumption

theorem all_in (c : Dev nD) (Φ : Fin 8 → sProp 𝕄) : bigSep Finset.univ Φ = iprop(Φ c ∗ bigSepL steps fun k => Φ (src c k)) := by
  rw [bigSep_univ_at Φ c]; exact congrArg (fun X => iprop(Φ c ∗ X)) (others_srcs c Φ)

theorem all_option {I : Type} [Fintype I] [DecidableEq I] (Φ : Option I → sProp 𝕄) :
    bigSep Finset.univ Φ = iprop(Φ none ∗ bigSep Finset.univ fun i => Φ (some i)) := by
  rw [bigSep_univ_at Φ none, show (Finset.univ.erase none : Finset (Option I)) = Finset.univ.map ⟨some, Option.some_injective I⟩ from by
    ext x; rcases x with _ | x <;> simp, bigSep_map]
  rfl

theorem all_cells (Φ : CI → sProp 𝕄) : bigSep Finset.univ Φ
    = iprop(Φ none ∗ (bigSep Finset.univ fun i => Φ (some (0, i))) ∗ (bigSep Finset.univ fun i => Φ (some (1, i)))
        ∗ (bigSep Finset.univ fun i => Φ (some (2, i))) ∗ (bigSep Finset.univ fun i => Φ (some (3, i)))) := by
  rw [all_option, bigSep_univ_prod, bigSep_univ_eq_bigSepL [0, 1, 2, 3] (by decide) (by decide)]; rfl

/-- The cells the exchange uses on device `c`, and -/
def used (c : Dev nD) (Φ : CI → sProp 𝕄) : sProp 𝕄 :=
  iprop(Φ none ∗ (bigSepL steps fun k => iprop(Φ (some (1, src c k)) ∗ Φ (some (3, src c k))))
    ∗ bigSepL steps fun j => iprop(Φ (some (0, j.castSucc)) ∗ Φ (some (2, j.castSucc))))
/-- the four it leaves alone. -/
def idle (c : Dev nD) (Φ : CI → sProp 𝕄) : sProp 𝕄 :=
  iprop(Φ (some (0, 7)) ∗ Φ (some (1, c)) ∗ Φ (some (2, 7)) ∗ Φ (some (3, c)))

theorem cells_split (c : Dev nD) (Φ : CI → sProp 𝕄) : bigSep Finset.univ Φ = iprop(used c Φ ∗ idle c Φ) := by
  rw [all_cells, all_out fun i => Φ (some (0, i)), all_out fun i => Φ (some (2, i)), all_in c fun i => Φ (some (1, i)), all_in c fun i => Φ (some (3, i))]
  unfold used idle
  rw [steps_sep, steps_sep]
  refine same ?_ ?_
  · iintro ⟨H, ⟨H0, I0⟩, ⟨I1, H1⟩, ⟨H2, I2⟩, ⟨I3, H3⟩⟩
    isplitl [H H0 H1 H2 H3]
    · isplitl [H]; · iexact H
      isplitl [H1 H3]
      · isplitl [H1] <;> iassumption
      isplitl [H0] <;> iassumption
    isplitl [I0]; · iexact I0
    isplitl [I1]; · iexact I1
    isplitl [I2] <;> iassumption
  · iintro ⟨⟨H, ⟨H1, H3⟩, ⟨H0, H2⟩⟩, ⟨I0, I1, I2, I3⟩⟩
    isplitl [H]; · iexact H
    isplitl [H0 I0]
    · isplitl [H0] <;> iassumption
    isplitl [H1 I1]
    · isplitl [I1] <;> iassumption
    isplitl [H2 I2]
    · isplitl [H2] <;> iassumption
    isplitl [I3] <;> iassumption

/-! ## An idle cell closes as it is -/

theorem close_at (c : Dev nD) (x : CI) (h : dutO c (some x) = ∅) :
    iprop(ctx m K ∗ atPos ER (cell c x) 0 ∅ 0) ⊢ |={Set.univ}=> (semVal (cell c x) 0 : sProp 𝕄) := by
  iintro ⟨#Hc, Hat⟩
  iapply (cell_close ER (sched m) (Set.mem_univ (K (c, x))) (fun h => h)
    (fun r _ => by rcases Nat.eq_zero_or_pos r with rfl | hr
                   · rw [duties_cell, h]
                   · exact duties_later m _ r hr))
  isplitr
  · iapply (ctx_inv m K c x); iexact Hc
  iexact Hat

theorem close_idle (c : Dev nD) :
    iprop(ctx m K ∗ idle c fun x => atPos ER (cell c x) 0 ∅ 0) ⊢ |={Set.univ}=> (idle c fun x => semVal (cell c x) 0 : sProp 𝕄) := by
  unfold idle
  iintro ⟨#Hc, H0, H1, H2, H3⟩
  imod (close_at m K c (some (0, 7)) (by revert c; decide)) $$ [H0] with H0
  · isplitr; · iexact Hc
    iexact H0
  imod (close_at m K c (some (1, c)) (by revert c; decide)) $$ [H1] with H1
  · isplitr; · iexact Hc
    iexact H1
  imod (close_at m K c (some (2, 7)) (by revert c; decide)) $$ [H2] with H2
  · isplitr; · iexact Hc
    iexact H2
  imod (close_at m K c (some (3, c)) (by revert c; decide)) $$ [H3] with H3
  · isplitr; · iexact Hc
    iexact H3
  imodintro
  isplitl [H0]; · iexact H0
  isplitl [H1]; · iexact H1
  isplitl [H2] <;> iassumption

/-! ## Scratch buffers and their slots -/

section Blocks
variable {s : Shape} {e : EltTy} {B : Type} [Fintype B] [DecidableEq B] (M : Memref sig .tc .vmem s e) (r : B → Rect s)

/-- The part of a buffer a slot covers. -/
abbrev part (b : B) : Finset M.view.ty.Idx := (M.access (r b)).set

/-- A buffer held whole, at some contents. -/
def wholeAny (c : Dev nD) : sProp 𝕄 :=
  iprop(∃ f : Buf (Elt F) (M.view.loc (c : Thread nD τ)), M.view.loc (c : Thread nD τ) ↦{fullShare} f)

variable (hd : ∀ b b', b ≠ b' → Disjoint (part M r b) (part M r b')) (hc : Finset.univ.biUnion (part M r) = Finset.univ)

omit [FloatOps F] in
include hd hc in
theorem cut (c : Dev nD) : (wholeAny M c : sProp 𝕄) ⊢ bigSep Finset.univ fun b => slotAny c M (r b) := by
  unfold wholeAny
  iintro ⟨%f, H⟩
  iapply ((Entails.of_eq (pointsTo_blocks (ℓ := M.view.loc (c : Thread nD τ)) (part M r) hd hc f)).trans
    (bigSep_mono fun b _ => show (M.view.loc (c : Thread nD τ) ↦[(M.access (r b)).set]{fullShare} f : sProp 𝕄) ⊢ slotAny c M (r b) from by
      unfold slotAny; iintro H; iexists f; iexact H))
  iexact H

omit [FloatOps F] in
include m hd hc in
theorem join (c : Dev nD) : (bigSep Finset.univ fun b => slotAny c M (r b) : sProp 𝕄) ⊢ wholeAny M c :=
  pointsTo_blocks_join_exists (ℓ := M.view.loc (c : Thread nD τ)) (part M r) hd hc (m (M.view.loc (c : Thread nD τ)))

end Blocks

/-- The slots of each scratch buffer are apart and fill it. -/
theorem snd_apart (b b' : Fin 7) (h : b ≠ b') : Disjoint (part mSnd rSnd b) (part mSnd rSnd b') := by
  rw [part, part, View.set_slice_whole, View.set_slice_whole]
  exact lead_disjoint (s := S7x512x512) (0 : Fin 3) 1 (fun j => ![j.val, 0, 0]) S1x512x512.size inb_snd (fun b => (Nat.one_mul _).symm) rfl b b' h
theorem ssc_apart (b b' : Fin 7) (h : b ≠ b') : Disjoint (part mSsc rSsc b) (part mSsc rSsc b') := by
  rw [part, part, View.set_slice_whole, View.set_slice_whole]
  exact lead_disjoint (s := S7x8x128) (0 : Fin 3) 1 (fun j => ![j.val, 0, 0]) S1x8x128.size inb_ssc (fun b => (Nat.one_mul _).symm) rfl b b' h
theorem rcv_apart (b b' : Dev nD) (h : b ≠ b') : Disjoint (part mRcv rRcv b) (part mRcv rRcv b') := by
  rw [part, part, View.set_slice_whole, View.set_slice_whole]
  exact lead_disjoint (s := S8x512x512) (0 : Fin 3) 1 (fun j => ![j.val, 0, 0]) S1x512x512.size inb_rcv (fun b => (Nat.one_mul _).symm) rfl b b' h
theorem rsc_apart (b b' : Dev nD) (h : b ≠ b') : Disjoint (part mRsc rRsc b) (part mRsc rRsc b') := by
  rw [part, part, View.set_slice_whole, View.set_slice_whole]
  exact lead_disjoint (s := S8x8x128) (0 : Fin 3) 1 (fun j => ![j.val, 0, 0]) S1x8x128.size inb_rsc (fun b => (Nat.one_mul _).symm) rfl b b' h

theorem snd_fill : Finset.univ.biUnion (part mSnd rSnd) = Finset.univ := by
  rw [show part mSnd rSnd = fun b => (rSnd b).set from funext fun b => View.set_slice_whole _ _]
  exact lead_cover (s := S7x512x512) (0 : Fin 3) 1 (fun j => ![j.val, 0, 0]) S1x512x512.size inb_snd (fun b => (Nat.one_mul _).symm) (fun b a h => by revert b a h; decide) rfl (by decide) rfl
theorem ssc_fill : Finset.univ.biUnion (part mSsc rSsc) = Finset.univ := by
  rw [show part mSsc rSsc = fun b => (rSsc b).set from funext fun b => View.set_slice_whole _ _]
  exact lead_cover (s := S7x8x128) (0 : Fin 3) 1 (fun j => ![j.val, 0, 0]) S1x8x128.size inb_ssc (fun b => (Nat.one_mul _).symm) (fun b a h => by revert b a h; decide) rfl (by decide) rfl
theorem rcv_fill : Finset.univ.biUnion (part mRcv rRcv) = Finset.univ := by
  rw [show part mRcv rRcv = fun b => (rRcv b).set from funext fun b => View.set_slice_whole _ _]
  exact lead_cover (s := S8x512x512) (0 : Fin 3) 1 (fun j => ![j.val, 0, 0]) S1x512x512.size inb_rcv (fun b => (Nat.one_mul _).symm) (fun b a h => by revert b a h; decide) rfl (by decide) rfl
theorem rsc_fill : Finset.univ.biUnion (part mRsc rRsc) = Finset.univ := by
  rw [show part mRsc rRsc = fun b => (rRsc b).set from funext fun b => View.set_slice_whole _ _]
  exact lead_cover (s := S8x8x128) (0 : Fin 3) 1 (fun j => ![j.val, 0, 0]) S1x8x128.size inb_rsc (fun b => (Nat.one_mul _).symm) (fun b a h => by revert b a h; decide) rfl (by decide) rfl

/-- The four scratch buffers whole. -/
def scratch (c : Dev nD) : sProp 𝕄 := iprop(wholeAny mSnd c ∗ wholeAny mSsc c ∗ wholeAny mRcv c ∗ wholeAny mRsc c)

/-- All their slots: the send slots by step, the landing slots by device. -/
def slots (c : Dev nD) : sProp 𝕄 := iprop(bigSepL steps (sndSlots c) ∗ bigSep Finset.univ (rcvSlots c))

theorem scratch_cut (c : Dev nD) : (scratch c : sProp 𝕄) ⊢ slots c := by
  unfold scratch slots
  rw [← all_steps, show (sndSlots c : Fin 7 → sProp 𝕄) = fun j => iprop(slotAny c mSnd (rSnd j) ∗ slotAny c mSsc (rSsc j)) from rfl,
    show (rcvSlots c : Dev nD → sProp 𝕄) = fun s => iprop(slotAny c mRcv (rRcv s) ∗ slotAny c mRsc (rRsc s)) from rfl, bigSep_sep', bigSep_sep']
  iintro ⟨H1, H2, H3, H4⟩
  isplitl [H1 H2]
  · isplitl [H1]
    · iapply (cut mSnd rSnd snd_apart snd_fill c); iexact H1
    · iapply (cut mSsc rSsc ssc_apart ssc_fill c); iexact H2
  · isplitl [H3]
    · iapply (cut mRcv rRcv rcv_apart rcv_fill c); iexact H3
    · iapply (cut mRsc rRsc rsc_apart rsc_fill c); iexact H4

include m in
theorem scratch_join (c : Dev nD) : (slots c : sProp 𝕄) ⊢ scratch c := by
  unfold scratch slots
  rw [← all_steps, show (sndSlots c : Fin 7 → sProp 𝕄) = fun j => iprop(slotAny c mSnd (rSnd j) ∗ slotAny c mSsc (rSsc j)) from rfl,
    show (rcvSlots c : Dev nD → sProp 𝕄) = fun s => iprop(slotAny c mRcv (rRcv s) ∗ slotAny c mRsc (rRsc s)) from rfl, bigSep_sep', bigSep_sep']
  iintro ⟨⟨H1, H2⟩, H3, H4⟩
  isplitl [H1]; · iapply (join m mSnd rSnd snd_apart snd_fill c); iexact H1
  isplitl [H2]; · iapply (join m mSsc rSsc ssc_apart ssc_fill c); iexact H2
  isplitl [H3]; · iapply (join m mRcv rRcv rcv_apart rcv_fill c); iexact H3
  iapply (join m mRsc rRsc rsc_apart rsc_fill c); iexact H4

/-! ## In and out -/

/-- The duties device `c` pays in the whole exchange. -/
def toks (c : Dev nD) : sProp 𝕄 := bigSepL steps fun j => iprop(dutyTok ER (barC (peer c j)) 0 c ∗ sndToks c j)
/-- What it is owed. -/
def creds (c : Dev nD) : sProp 𝕄 :=
  iprop(cred (tallyAt (barC c) () 7)
    ∗ bigSepL steps fun k => iprop(cred (tallyAt (inC c (src c k)) () NB) ∗ cred (tallyAt (sinC c (src c k)) () NS)))

/-- The used cells, each at its start, -/
def usedPos (c : Dev nD) : sProp 𝕄 :=
  iprop(atPos ER (barC c) 0 ∅ 0 ∗ (bigSepL steps fun k => iprop(atPos ER (inC c (src c k)) 0 ∅ 0 ∗ atPos ER (sinC c (src c k)) 0 ∅ 0))
    ∗ bigSepL steps (outPos c))
/-- and each closed. -/
def usedEnd (c : Dev nD) : sProp 𝕄 :=
  iprop(semVal (barC c) 0 ∗ (bigSepL steps fun k => iprop(semVal (inC c (src c k)) 0 ∗ semVal (sinC c (src c k)) 0))
    ∗ bigSepL steps fun j => iprop(semVal (outC c j.castSucc) 0 ∗ semVal (soutC c j.castSucc) 0))

theorem used_pos (c : Dev nD) : (used c fun x => atPos ER (cell c x) 0 ∅ 0 : sProp 𝕄) = usedPos c := rfl
theorem used_end (c : Dev nD) : (used c fun x => semVal (cell c x) 0 : sProp 𝕄) = usedEnd c := rfl

theorem toks_eq (c : Dev nD) : (toks c : sProp 𝕄)
    = iprop((bigSepL steps fun j => dutyTok ER (barC (peer c j)) 0 c) ∗ bigSepL steps (sndToks c)) :=
  steps_sep (fun j => dutyTok ER (barC (peer c j)) 0 c) (sndToks c)
theorem sigRes_eq (c : Dev nD) : (bigSepL steps (sigRes c) : sProp 𝕄)
    = iprop((bigSepL steps fun j => dutyTok ER (barC (peer c j)) 0 c) ∗ bigSepL steps fun j => rcvSlots c (peer c j)) :=
  steps_sep (fun j => dutyTok ER (barC (peer c j)) 0 c) (fun j => rcvSlots c (peer c j))
theorem rcvRes_eq (c : Dev nD) : (bigSepL steps (fun k => rcvRes c (src c k)) : sProp 𝕄)
    = iprop((bigSepL steps fun k => iprop(cred (tallyAt (inC c (src c k)) () NB) ∗ cred (tallyAt (sinC c (src c k)) () NS)))
      ∗ bigSepL steps fun k => iprop(atPos ER (inC c (src c k)) 0 ∅ 0 ∗ atPos ER (sinC c (src c k)) 0 ∅ 0)) :=
  steps_sep (fun k => iprop(cred (tallyAt (inC c (src c k)) () NB) ∗ cred (tallyAt (sinC c (src c k)) () NS)))
    (fun k => iprop(atPos ER (inC c (src c k)) 0 ∅ 0 ∗ atPos ER (sinC c (src c k)) 0 ∅ 0))
theorem rcvEnd_eq (c : Dev nD) : (bigSepL steps (fun k => rcvEnd c (src c k)) : sProp 𝕄)
    = iprop((bigSepL steps fun k => rcvSlots c (src c k))
      ∗ bigSepL steps fun k => iprop(semVal (inC c (src c k)) 0 ∗ semVal (sinC c (src c k)) 0)) :=
  steps_sep (fun k => rcvSlots c (src c k)) (fun k => iprop(semVal (inC c (src c k)) 0 ∗ semVal (sinC c (src c k)) 0))
theorem sndEnd_eq (c : Dev nD) : (bigSepL steps (sndEnd c) : sProp 𝕄)
    = iprop(bigSepL steps (sndSlots c) ∗ bigSepL steps fun j => iprop(semVal (outC c j.castSucc) 0 ∗ semVal (soutC c j.castSucc) 0)) :=
  steps_sep (sndSlots c) (fun j => iprop(semVal (outC c j.castSucc) 0 ∗ semVal (soutC c j.castSucc) 0))

theorem enter (c : Dev nD) : iprop(slots c ∗ creds c ∗ usedPos c ∗ toks c) ⊢ (iprop(devRes c ∗ rcvSlots c c) : sProp 𝕄) := by
  rw [toks_eq]
  unfold slots creds usedPos devRes
  rw [bigSep_univ_at _ c, others_peers c (rcvSlots c), sigRes_eq, rcvRes_eq]
  iintro ⟨⟨Hsnd, Hown, Hrcv⟩, ⟨Hcb, Hci⟩, ⟨Hb, Hi, Ho⟩, ⟨Htb, Hts⟩⟩
  isplitr [Hown]
  · isplitl [Hcb]; · iexact Hcb
    isplitl [Hb]; · iexact Hb
    isplitl [Htb Hrcv]
    · isplitl [Htb] <;> iassumption
    isplitl [Hsnd]; · iexact Hsnd
    isplitl [Hts]; · iexact Hts
    isplitl [Hci Hi]
    · isplitl [Hci] <;> iassumption
    iexact Ho
  · iexact Hown

theorem leave (c : Dev nD) : iprop(devEnd c ∗ rcvSlots c c) ⊢ (iprop(slots c ∗ usedEnd c) : sProp 𝕄) := by
  unfold slots usedEnd devEnd
  rw [bigSep_univ_at _ c, others_srcs c (rcvSlots c), rcvEnd_eq, sndEnd_eq]
  iintro ⟨⟨Hb, ⟨Hr, Hi⟩, ⟨Hs, Ho⟩⟩, Hown⟩
  isplitl [Hs Hown Hr]
  · isplitl [Hs]; · iexact Hs
    isplitl [Hown] <;> iassumption
  · isplitl [Hb]; · iexact Hb
    isplitl [Hi] <;> iassumption

/-! ## The launch's credit -/

theorem cell_eq_iff {c c' : Dev nD} {x x' : CI} : cell c x = cell c' x' ↔ c = c' ∧ x = x' :=
  ⟨fun h => ⟨congrArg (fun g : GSem nD τ sig => g.1.1) h, csem_injective (congrArg (fun g : GSem nD τ sig => g.2) h)⟩, fun ⟨h, h'⟩ => h ▸ h' ▸ rfl⟩

theorem tally_cell (c c' : Dev nD) (x x' : CI) (n : ℕ) :
    (tallyAt (cell c x) () n : CellTallies nD τ sig Unit) (cell c' x') () = if c' = c ∧ x' = x then n else 0 := by
  rw [tallyAt_apply]
  by_cases h : c' = c ∧ x' = x
  · rw [if_pos h, if_pos ⟨cell_eq_iff.mpr h, rfl⟩]
  · rw [if_neg h, if_neg fun h' => h (cell_eq_iff.mp h'.1)]

/-- How many steps of a list reach device `c` from device `d`. -/
def reach (d c : Dev nD) (l : List (Fin 7)) : ℕ := (l.map fun j => if c = peer d j then 1 else 0).sum

theorem owedS_at (d c : Dev nD) (x : CI) : ∀ l : List (Fin 7), owedS d l (cell c x) ()
    = reach d c l * ((if x = some (1, d) then NB else 0) + (if x = some (3, d) then NS else 0))
  | [] => (Nat.zero_mul _).symm
  | j :: l => by
    rw [owedS, Pi.add_apply, Finsupp.add_apply, Pi.add_apply, Finsupp.add_apply, owedS_at d c x l]
    have h1 := tally_cell (peer d j) c (some (1, d)) x NB
    have h2 := tally_cell (peer d j) c (some (3, d)) x NS
    refine (congrArg₂ (· + ·) (congrArg₂ (· + ·) rfl h1) h2).trans ?_
    rw [reach, reach, List.map_cons, List.sum_cons]
    by_cases h : c = peer d j
    · simp only [h, true_and, if_true]; ring
    · simp only [h, false_and, if_false, Nat.zero_add, Nat.add_zero]

theorem owedB_at (d c : Dev nD) (x : CI) : ∀ l : List (Fin 7), owedB d l (cell c x) ()
    = owedS d steps (cell c x) () + reach d c l * (if x = none then 1 else 0)
  | [] => by rw [owedB]; exact ((congrArg _ (Nat.zero_mul _)).trans (Nat.add_zero _)).symm
  | j :: l => by
    rw [owedB, Pi.add_apply, Finsupp.add_apply, owedB_at d c x l]
    refine (congrArg₂ (· + ·) rfl (tally_cell (peer d j) c none x 1)).trans ?_
    rw [reach, reach, List.map_cons, List.sum_cons]
    by_cases h : c = peer d j
    · simp only [h, true_and, if_true]; ring
    · simp only [h, false_and, if_false, Nat.zero_add, Nat.add_zero]

theorem reach_all : ∀ c : Dev nD, ∑ d : Dev nD, reach d c steps = 7 := by decide +kernel
theorem reach_src : ∀ (c : Dev nD) (k : Fin 7), reach (src c k) c steps = 1 := by decide +kernel

theorem due (c : Dev nD) (x : CI) (n : ℕ) (h : ∑ d : Dev nD, owedB d steps (cell c x) () = n) :
    tallyOn (cell c x) (launchCredit (Pipeline.owing fun d => owedB d steps) 0 (cell c x)) = (tallyAt (cell c x) () n : CellTallies nD τ sig Unit) := by
  unfold tallyAt; refine congrArg _ (Finsupp.ext fun u => ?_); cases u
  rw [Pipeline.launchCredit_owing, Finsupp.single_eq_same]; exact h

theorem due_bar (c : Dev nD) : ∑ d : Dev nD, owedB d steps (cell c none) () = 7 := by
  rw [← reach_all c]
  refine Finset.sum_congr rfl fun d _ => ?_
  rw [owedB_at, owedS_at, if_neg (by simp), if_neg (by simp), if_pos rfl, Nat.mul_zero, Nat.zero_add, Nat.mul_one]

theorem due_in (c : Dev nD) (k : Fin 7) : ∑ d : Dev nD, owedB d steps (cell c (some (1, src c k))) () = NB := by
  rw [Finset.sum_eq_single (src c k)]
  · rw [owedB_at, owedS_at, reach_src, if_pos rfl, if_neg (by simp), if_neg (by simp)]; ring
  · intro d _ h
    rw [owedB_at, owedS_at, if_neg (fun h' => h (by simpa using h'.symm)), if_neg (by simp), if_neg (by simp)]; ring
  · intro h; exact absurd (Finset.mem_univ _) h

theorem due_sin (c : Dev nD) (k : Fin 7) : ∑ d : Dev nD, owedB d steps (cell c (some (3, src c k))) () = NS := by
  rw [Finset.sum_eq_single (src c k)]
  · rw [owedB_at, owedS_at, reach_src, if_neg (by simp), if_pos rfl, if_neg (by simp)]; ring
  · intro d _ h
    rw [owedB_at, owedS_at, if_neg (by simp), if_neg (fun h' => h (by simpa using h'.symm)), if_neg (by simp)]; ring
  · intro h; exact absurd (Finset.mem_univ _) h

theorem launch_creds (c : Dev nD) : (Pipeline.launchCred (fun d => owedB d steps) c : sProp 𝕄) ⊢ creds c := by
  have h : (Pipeline.launchCred (fun d => owedB d steps) c : sProp 𝕄)
      ⊢ bigSep (Finset.univ.map ⟨csem, csem_injective⟩) fun sm : SemLoc sig =>
        cred (tallyOn ((c : Thread nD τ), sm) (launchCredit (Pipeline.owing fun d => owedB d steps) 0 ((c : Thread nD τ), sm))) := by
    unfold Pipeline.launchCred
    rw [BI.bigSep_sdiff_split (Finset.subset_univ (Finset.univ.map ⟨csem, csem_injective⟩))]
    change iprop(_ ∗ _) ⊢ _
    iintro ⟨H, -⟩; iexact H
  refine h.trans ?_
  rw [bigSep_map]
  refine (Entails.of_eq (cells_split c _)).trans ?_
  unfold used creds
  iintro ⟨⟨Hb, Hi, -⟩, -⟩
  isplitl [Hb]
  · iapply (Entails.of_eq (congrArg cred (due c none 7 (due_bar c)))); iexact Hb
  · iapply (bigSepL_mono fun k _ => Entails.of_eq (congrArg₂ (fun a b => iprop(cred a ∗ cred b))
      (due c (some (1, src c k)) NB (due_in c k)) (due c (some (3, src c k)) NS (due_sin c k))))
    iexact Hi

end Cert.KernelIdealProof

end
-- ==== Proof.KernelIdealRun.lean ====
/-
# The run

The pipeline's proof data, its body from `device_sound`, the launch, and the run of the whole program.
-/
module

public import proofs.«01_k».proof.Proof.KernelIdealHoldings
public import proofs.«01_k».proof.Proof.Gen.KernelIdeal.Points
public import Idealize.ShloMosaic.Lib.Pipeline.CollectiveSegs

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory the program starts from. -/
def s₀ : MemSt nD τ sig (Elt F) := ⟨m, fun _ => 0, ρ⟩

/-! ## The pipeline's proof data -/

/-- Every cell of device `c` at its start, and the duties it pays. -/
def linear (c : Dev nD) : sProp 𝕄 := iprop((bigSep Finset.univ fun x : CI => atPos ER (cell c x) 0 ∅ 0) ∗ toks c)

/-- What a device starts the body with, beside its scratch buffers. -/
def start (c : Dev nD) : sProp 𝕄 := iprop((∃ K, records m K ∗ linear c) ∗ creds c ∗ levAts L lv)

def Φ₀ (c : Dev nD) : sProp 𝕄 := iprop(start m c ∗ scratch c)
/-- What it ends with: its scratch buffers, and every cell's counter at zero. -/
def Φ₁ (c : Dev nD) : sProp 𝕄 := iprop(scratch c ∗ bigSep Finset.univ fun x : CI => semVal (cell c x) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => wstg m c
    | ⟨2, _⟩ => outAt m c
  Φ t := match t with
    | ⟨0, _⟩ => Φ₀ m c
    | ⟨_ + 1, _⟩ => Φ₁ c
  q _ := fullShare
  owed t := match t with
    | ⟨0, _⟩ => owedB c steps
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- From the start of the body to its end, on what the stages need. -/
theorem body_sound (c : Dev nD) (Kt : PUnit → sProp 𝕄) :
    iprop(Φ₀ m c ∗ owe c (owedB c steps) ∗ xPts m c ∗ wPts m c ∗ (∃ f, oPts c f)
        ∗ ((owe c 0 ∗ xPts m c ∗ wPts m c ∗ oPts c (outAt m c) ∗ Φ₁ c) -∗ Kt ⟨⟩))
      ⊢ WP c (device c) Kt := by
  unfold Φ₀ start linear Φ₁
  rw [cells_split c fun x => atPos ER (cell c x) 0 ∅ 0, used_pos, cells_split c fun x => semVal (cell c x) 0, used_end]
  iintro ⟨⟨⟨⟨%K, #Hrec, ⟨Hpos, Hidle⟩, Htok⟩, Hcr, #Hlev⟩, Hscr⟩, HO, Hx, Hw, Ho, Hk⟩
  ihave #Hc := (show iprop(records m K ∗ levAts L lv) ⊢ ctx m K from Entails.of_eq rfl) $$ [Hrec Hlev]
  · isplitr; · iexact Hrec
    iexact Hlev
  imod (close_idle m K c) $$ [Hidle] with Hidle
  · isplitr; · iexact Hc
    iexact Hidle
  ihave Hslots := (scratch_cut (F := F) c) $$ Hscr
  ihave Hres := (enter (F := F) c) $$ [Hslots Hcr Hpos Htok]
  · isplitl [Hslots]; · iexact Hslots
    isplitl [Hcr]; · iexact Hcr
    isplitl [Hpos] <;> iassumption
  icases Hres with ⟨Hres, Hown⟩
  iapply (device_sound m K c Kt)
  isplitr; · iexact Hc
  isplitl [HO]; · iexact HO
  isplitl [Hx]; · iexact Hx
  isplitl [Hw]; · iexact Hw
  isplitl [Ho]; · iexact Ho
  isplitl [Hres]; · iexact Hres
  iintro ⟨HO, Hx, Hw, Ho, Hend⟩
  iapply Hk
  ihave Hl := (leave (F := F) c) $$ [Hend Hown]
  · isplitl [Hend] <;> iassumption
  icases Hl with ⟨Hslots, Hused⟩
  isplitl [HO]; · iexact HO
  isplitl [Hx]; · iexact Hx
  isplitl [Hw]; · iexact Hw
  isplitl [Ho]; · iexact Ho
  isplitl [Hslots]
  · iapply (scratch_join m c); iexact Hslots
  isplitl [Hused] <;> iassumption

theorem owe_in (c : Dev nD) : ((dats m ρ 0 c).owesAt () t0_0.castSucc : sProp 𝕄) ⊢ owe c (owedB c steps) := by
  unfold Dat.owesAt Pipeline.owesWithin owe
  iintro ⟨%W, -, H⟩
  iexists W; iexact H
theorem owe_out (c : Dev nD) : (owe c 0 : sProp 𝕄) ⊢ (dats m ρ 0 c).owesAt () t0_0.succ := by
  unfold Dat.owesAt Pipeline.owesWithin owe
  iintro ⟨%W, H⟩
  iexists W
  isplitr
  · ipureintro; exact fun _ _ => Or.inl trivial
  iexact H

def bodyPre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ c ∗ (dats m ρ 0 c).owesAt () t0_0.succ
    ∗ stg c cc0_stg0_0 (xstg m c) ∗ stg c cc0_stg1_0 (wstg m c) ∗ stg c cc0_stg2_0 (outAt m c))

theorem before_x (c : Dev nD) (d) : (dats m ρ 0 c).before (0 : Fin 3) t0_0 d = xstg m c := by
  unfold Dat.before; rw [if_pos (fetch0_0 t0_0)]; rfl
theorem before_w (c : Dev nD) (d) : (dats m ρ 0 c).before (1 : Fin 3) t0_0 d = wstg m c := by
  unfold Dat.before; rw [if_pos (fetch0_1 t0_0)]; rfl

set_option maxRecDepth 8000 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ (c : Thread nD τ) none) Set.univ (bodyAt0 t0_0) (fun _ => bodyPost m ρ c)
  rw [body_eqP, wp_deviceId, deviceP_eq]
  unfold bodyPre bodyPost
  simp only [before_x, before_w]
  iintro ⟨HΦ, HO, ⟨%d0, %f0, %h0, Hx⟩, ⟨%d1, %f1, %h1, Hw⟩, ⟨%d2, %f2, -, Ho⟩⟩
  subst h0; subst h1
  iapply (body_sound m c fun _ => bodyPost m ρ c)
  unfold xPts wPts oPts
  isplitl [HΦ]; · iexact HΦ
  isplitl [HO]; · iapply (owe_in m ρ c); iexact HO
  isplitl [Hx]; · iexact Hx
  isplitl [Hw]; · iexact Hw
  isplitl [Ho]; · iexists f2; iexact Ho
  unfold bodyPost
  iintro ⟨HO, Hx, Hw, Ho, HΦ⟩
  isplitl [HΦ]; · iexact HΦ
  isplitl [HO]; · iapply (owe_out m ρ c); iexact HO
  isplitl [Hx]
  · iexists (xstg m c); isplitr; · ipureintro; rfl
    iexact Hx
  isplitl [Hw]
  · iexists (wstg m c); isplitr; · ipureintro; rfl
    iexact Hw
  iexists (outAt m c); isplitr; · ipureintro; rfl
  iexact Ho

/-! ## The launch -/

/-- The kernel's own semaphores. -/
def osem (p : Fin 4 × Fin 8) : SemLoc sig := csem (some p)

theorem ownSemFacts : Pipeline.OwnSemFacts cfg0.spec osem := by decide +kernel

theorem share_eq (c : Dev nD) (w : Fin cfg0.W) : (dats m ρ 0 c).share w = fullShare := by unfold Dat.share; split <;> rfl

abbrev kcell (ck : Dev nD × CI) : GSem nD τ sig := cell ck.1 ck.2
theorem kcell_injective : Function.Injective (kcell : Dev nD × CI → GSem nD τ sig) := fun a b h =>
  Prod.ext (cell_eq_iff.mp h).1 (cell_eq_iff.mp h).2
def allCells : Finset (GSem nD τ sig) := Finset.univ.map ⟨kcell, kcell_injective⟩

/-- The duties, by payer, step and which of the step's five payments: the cell as a device and an index, and the duty. -/
def payOf (t : Dev nD × Fin 7 × Fin 5) : (Dev nD × CI) × Fin 8 :=
  match t.2.2 with
  | 0 => ((peer t.1 t.2.1, none), t.1)
  | 1 => ((t.1, some (0, t.2.1.castSucc)), 0)
  | 2 => ((t.1, some (2, t.2.1.castSucc)), 0)
  | 3 => ((peer t.1 t.2.1, some (1, t.1)), 0)
  | 4 => ((peer t.1 t.2.1, some (3, t.1)), 0)

/-- The step that takes device `c` to device `d`. -/
def stepTo (c d : Dev nD) : Fin 7 := ⟨(d.val + 7 - c.val) % 8 % 7, Nat.mod_lt _ (by decide)⟩

/-- Who pays a duty. -/
def payerOf (y : (Dev nD × CI) × Fin 8) : Dev nD × Fin 7 × Fin 5 :=
  match y.1.2 with
  | none => (y.2, stepTo y.2 y.1.1, 0)
  | some (a, i) =>
    match a with
    | 0 => (y.1.1, stepOf i, 1)
    | 1 => (i, stepTo i y.1.1, 3)
    | 2 => (y.1.1, stepOf i, 2)
    | 3 => (i, stepTo i y.1.1, 4)

theorem payer_pay : ∀ t : Dev nD × Fin 7 × Fin 5, payerOf (payOf t) = t := by decide +kernel

abbrev tokOf (t : Dev nD × Fin 7 × Fin 5) : GSem nD τ sig × ℕ × Fin 8 := (kcell (payOf t).1, 0, (payOf t).2)
theorem tokOf_injective : Function.Injective tokOf := fun a b h => by
  have h1 : (payOf a).1 = (payOf b).1 := kcell_injective (congrArg (fun x : GSem nD τ sig × ℕ × Fin 8 => x.1) h)
  have h2 : (payOf a).2 = (payOf b).2 := congrArg (fun x : GSem nD τ sig × ℕ × Fin 8 => x.2.2) h
  rw [← payer_pay a, ← payer_pay b, Prod.ext h1 h2]
def allToks : Finset (GSem nD τ sig × ℕ × Fin 8) := Finset.univ.map ⟨tokOf, tokOf_injective⟩

def u₀ : UU := (initOf (Pipeline.cells cfgs cellOf_inj) (Pipeline.launchToks cfgs cellOf_inj), initOf allCells allToks)

/-- What the launch mints for a device. -/
def G (c : Dev nD) : sProp 𝕄 :=
  iprop((bigSep Finset.univ fun x : CI => roundState ER (sched m) (cell c x) 0)
    ∗ (bigSep Finset.univ fun x : CI => iprop(atPos ER (cell c x) 0 ∅ 0 ∗ reached ER (cell c x) 0)) ∗ toks c)

/-- What the device gets of it once every cell is under its invariant. -/
def G' (c : Dev nD) : sProp 𝕄 := iprop(∃ K, records m K ∗ linear c)

theorem toks_of (c : Dev nD) : (bigSep Finset.univ fun t : Fin 7 × Fin 5 =>
    (dutyTok ER (tokOf (c, t)).1 (tokOf (c, t)).2.1 (tokOf (c, t)).2.2 : sProp 𝕄)) = toks c := by
  rw [bigSep_univ_prod, all_steps]
  unfold toks sndToks
  exact congrArg (bigSepL steps) (funext fun j => by
    rw [bigSep_univ_eq_bigSepL [0, 1, 2, 3, 4] (by decide) (by decide)]; rfl)

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun x : CI => Φ (cell c x) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => toks_of c
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem unscopedSems0_eq (c : Dev nD) : (unscopedSems0 c : sProp 𝕄) = semVal (cell c none) 0 := by
  unfold unscopedSems0; rw [bigSep_eq_bigSepL_of_eq [SemLoc.reg barS] (by decide) (by decide)]; rfl

theorem sems0_eq (c : Dev nD) :
    iprop(unscopedSems0 c ∗ Pipeline.ownSems0 (Ix := Unit) (Name := ℕ) (U := UU) (Lvl := ℕ) (Val := Elt F) (τ := τ) osem c)
      = (bigSep Finset.univ fun x : CI => semVal (cell c x) 0 : sProp 𝕄) := by
  rw [unscopedSems0_eq, all_option]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun x : CI => iprop(∃ κ : ℕ, cellInv ER (sched m) κ (cell c x)))
          ∗ (bigSep Finset.univ fun x : CI => iprop(atPos ER (cell c x) 0 ∅ 0 ∗ reached ER (cell c x) 0)) ∗ toks c) := by
  unfold G
  iintro ⟨Hos, Hus, Hst, Hat, Htok⟩
  ihave Hv := (Entails.of_eq (sems0_eq (F := F) c)) $$ [Hos Hus]
  · isplitl [Hus] <;> iassumption
  imod (show iprop((bigSep Finset.univ fun x : CI => semVal (cell c x) 0) ∗ bigSep Finset.univ fun x : CI => roundState ER (sched m) (cell c x) 0)
      ⊢ (|={Set.univ}=> bigSep Finset.univ fun x : CI => iprop(∃ κ : ℕ, cellInv ER (sched m) κ (cell c x)) : sProp 𝕄) from by
        rw [← bigSep_sep']
        exact (bigSep_mono fun x _ => (Rounds.body_intro ER (sched m) (cell c x)).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun x : CI => iprop(∃ κ : ℕ, cellInv ER (sched m) κ (cell c x)))
          ∗ (bigSep Finset.univ fun x : CI => iprop(atPos ER (cell c x) 0 ∅ 0 ∗ reached ER (cell c x) 0)) ∗ toks c) : sProp 𝕄)
      ⊢ bigSep Finset.univ (G' m) := by
  rw [bigSep_sep', bigSep_sep', ← bigSep_univ_prod (fun ck : Dev nD × CI => iprop(∃ κ : ℕ, cellInv ER (sched m) κ (cell ck.1 ck.2))),
    bigSep_congr (s := Finset.univ) (fun (c : Dev nD) _ => bigSep_sep' Finset.univ (fun x : CI => (atPos ER (cell c x) 0 ∅ 0 : sProp 𝕄)) (fun x => reached ER (cell c x) 0)),
    bigSep_sep', ← bigSep_univ_prod (fun ck : Dev nD × CI => (reached ER (cell ck.1 ck.2) 0 : sProp 𝕄))]
  iintro ⟨HI, ⟨Hat, #HR⟩, Htok⟩
  ihave HK := (BI.bigSep_exists_pi Finset.univ (fun (ck : Dev nD × CI) (κ : ℕ) => (cellInv ER (sched m) κ (cell ck.1 ck.2) : sProp 𝕄))) $$ HI
  icases HK with ⟨%K, #HI⟩
  iapply (bigSep_with_persistent (R := records m K) (Φ := linear) (Ψ := G' m) fun c _ => by unfold G'; iintro H; iexists K; iexact H)
  isplitr
  · unfold records; isplitl; · iexact HI
    iexact HR
  · iapply (Entails.of_eq (bigSep_sep' Finset.univ (fun c : Dev nD => bigSep Finset.univ fun x : CI => (atPos ER (cell c x) 0 ∅ 0 : sProp 𝕄)) toks).symm)
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The theorem's side conditions -/

theorem start_intro (c : Dev nD) :
    iprop(Pipeline.unscopedRestP Pipeline.Prefetch.none cfg0.spec c (fun b => m ((c : Thread nD τ).loc b)) ∗ levAts L lv
        ∗ Pipeline.launchCred (fun d => owedB d steps) c ∗ prngReg c (ρ c) ∗ G' m c)
      ⊢ |={Set.univ}=> iprop(start m c ∗ emp) := by
  iintro ⟨-, Hlev, Hcr, -, HG⟩
  ihave Hc := (launch_creds (F := F) c) $$ Hcr
  imodintro
  unfold start G'
  isplitl
  · isplitl [HG]; · iexact HG
    isplitl [Hc]; · iexact Hc
    iexact Hlev
  · iempintro

theorem scratch_eq (c : Dev nD) : (Pipeline.scopedRest (Ix := Unit) (Name := ℕ) (U := UU) (Lvl := ℕ) (Val := Elt F) spec0 c : sProp 𝕄)
    = iprop(wholeAny mSnd c ∗ wholeAny mSsc c ∗ wholeAny mRcv c ∗ wholeAny mRsc c) := by
  rw [scopedRest0_eq]
  change iprop(wholeAny mSnd c ∗ wholeAny mRcv c ∗ wholeAny mSsc c ∗ wholeAny mRsc c) = _
  exact same (by iintro ⟨H0, H1, H2, H3⟩; isplitl [H0]; · iexact H0
                 isplitl [H2]; · iexact H2
                 isplitl [H1] <;> iassumption)
    (by iintro ⟨H0, H2, H1, H3⟩; isplitl [H0]; · iexact H0
        isplitl [H1]; · iexact H1
        isplitl [H2] <;> iassumption)

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  unfold scratch
  iapply (Entails.of_eq (scratch_eq (F := F) c)); iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl]
  unfold Φ₁
  rw [← sems0_eq]
  iintro ⟨Hr, Hu, Ho⟩
  isplitl [Hu]; · iexact Hu
  isplitl [Ho]; · iexact Ho
  iapply (Entails.of_eq (scratch_eq (F := F) c).symm)
  unfold scratch; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every run of the program ends, with each array at its computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun c => owedB c steps) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays hold at the end -/

theorem finalA_x (c : Dev nD) : finalA m ρ c (0 : Fin 3) = m ((c : Thread nD τ).loc main_arg0) :=
  (dats (F := F) m ρ 0 c).arrAt_in (0 : Fin 3) rfl _
theorem finalA_w (c : Dev nD) : finalA m ρ c (1 : Fin 3) = m ((c : Thread nD τ).loc main_arg1) :=
  (dats (F := F) m ρ 0 c).arrAt_in (1 : Fin 3) rfl _

/-- The result array's one block is the whole array. -/
theorem finalA_o (c : Dev nD) : (win0_2.blk (0 : Fin 1)).view.read (Elt F) (finalA m ρ c (2 : Fin 3)) = outAt m c := by
  unfold finalA
  rw [show cfg0.N = ((0 : Fin 1) : Fin cfg0.N).val + 1 from rfl, (dats m ρ 0 c).arrAt_succ (2 : Fin 3) (0 : Fin 1)]
  rw [show (cfg0.win (2 : Fin 3)).flush (0 : Fin 1) = true from by decide, if_pos rfl]
  exact View.read_write_univ _ _

theorem out_whole (f : main_v1.ty.Contents (Elt F)) : (win0_2.blk (0 : Fin 1)).view.read (Elt F) f = f :=
  Memref.read_access_unit_zero (Elt F) main_v1 (funext fun a => by fin_cases a <;> decide) (fun a => by fin_cases a <;> decide) f
theorem x_whole (f : main_arg0.ty.Contents (Elt F)) : (win0_0.blk (0 : Fin 1)).view.read (Elt F) f = f :=
  Memref.read_access_unit_zero (Elt F) main_arg0 (funext fun a => by fin_cases a <;> decide) (fun a => by fin_cases a <;> decide) f
theorem w_whole (f : main_arg1.ty.Contents (Elt F)) : (win0_1.blk (0 : Fin 1)).view.read (Elt F) f = f :=
  Memref.read_access_unit_zero (Elt F) main_arg1 (funext fun a => by fin_cases a <;> decide) (fun a => by fin_cases a <;> decide) f

/-- The run, read at the arguments, the result and the counters. -/
theorem run_out : θ_run defs (onTc (τ := τ) (main (F := F))) (s₀ m ρ) (fun r =>
    (∀ c : Dev nD, r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c =>
    ⟨((h.1 c (2 : Fin 3)).trans (out_whole _).symm).trans (finalA_o m ρ c),
      (h.1 c (0 : Fin 3)).trans (finalA_x m ρ c), (h.1 c (1 : Fin 3)).trans (finalA_w m ρ c)⟩, h.2⟩) (run_main m ρ)

end Cert.KernelIdealProof

end
-- ==== Proof.Quantiser.lean ====
/-
# The quantiser

The mathematics both programs share: a block's step, its rounded and clipped multiples, and what the receiver makes of them.
-/
module

public import Idealize.ShloMosaic.PureOps.Ideal
public import Idealize.ShloMosaic.PureOps.Ideal.Laws
public import Idealize.ShloMosaic.Lib.Pointwise.Index

@[expose] public section

noncomputable section

namespace Cert.Quantiser

open Idealize.ShloMosaic

/-- A block of the left factor. -/
abbrev Block := Fin 512 → Fin 512 → EReal

/-- The largest magnitude in a block. -/
def top (B : Block) : EReal := ⨆ i, ⨆ k, max (B i k) (-(B i k))

/-- The step: the largest magnitude, kept away from zero, over the largest integer. -/
def step (B : Block) : EReal := Ideal.div (max (top B) (Ideal.ofBits .f32 0x1E3CE508#32)) (Ideal.ofBits .f32 0x42FE0000#32)

/-- An entry as a multiple of the step, rounded to an integer and clipped. -/
def level (B : Block) (i k : Fin 512) : EReal :=
  min (Ideal.ofBits .f32 0x42FE0000#32) (max (Ideal.ofBits .f32 0xC2FE0000#32) (Ideal.liftRound Ideal.roundHalfEven (Ideal.div (B i k) (step B))))

/-- What the receiver multiplies with. -/
def sent (B : Block) : Block := fun i k => level B i k * step B

theorem hi_eq : Ideal.ofBits .f32 0x42FE0000#32 = ((127 : ℝ) : EReal) := by
  simp [Ideal.ofBits, Ideal.ieee]
  rw [← EReal.coe_mul]
  norm_num
theorem lo_eq : Ideal.ofBits .f32 0xC2FE0000#32 = ((-127 : ℝ) : EReal) := by
  simp [Ideal.ofBits, Ideal.ieee]
  rw [← EReal.coe_mul]
  norm_num
theorem ninf_eq : Ideal.ofBits .f32 0xFF800000#32 = (⊥ : EReal) := by
  simp [Ideal.ofBits, Ideal.ieee]

/-- The largest magnitude, taken by running through a block's entries in any order. -/
theorem fold_eq (B : Block) :
    Finset.fold max (Ideal.ofBits .f32 0xFF800000#32) (fun x : Fin 512 × Fin 512 => max (B x.1 x.2) (-(B x.1 x.2))) Finset.univ = top B := by
  refine eq_of_forall_ge_iff fun z => (Finset.fold_max_le z).trans ?_
  simp only [top, ninf_eq, bot_le, true_and, iSup_le_iff, Finset.mem_univ, true_implies]
  exact ⟨fun h i k => h (i, k), fun h x => h x.1 x.2⟩

/-- A level is an integer between -127 and 127, whatever the entry. -/
theorem level_int (B : Block) (i k : Fin 512) : ∃ z : ℤ, -127 ≤ z ∧ z ≤ 127 ∧ level B i k = ((z : ℝ) : EReal) := by
  unfold level
  rw [hi_eq, lo_eq]
  generalize Ideal.div (B i k) (step B) = y
  induction y with
  | bot => exact ⟨-127, le_refl _, by norm_num, by
    change min ((127 : ℝ) : EReal) (max ((-127 : ℝ) : EReal) ⊥) = _
    rw [max_eq_left bot_le, min_eq_right (EReal.coe_le_coe_iff.mpr (by norm_num))]
    norm_num⟩
  | top => exact ⟨127, by norm_num, le_refl _, by
    change min ((127 : ℝ) : EReal) (max ((-127 : ℝ) : EReal) ⊤) = _
    rw [max_eq_right le_top, min_eq_left le_top]
    norm_num⟩
  | coe r =>
    refine ⟨min 127 (max (-127) (Ideal.roundHalfEven r)), by omega, by omega, ?_⟩
    change min ((127 : ℝ) : EReal) (max ((-127 : ℝ) : EReal) ((Ideal.roundHalfEven r : ℝ) : EReal)) = _
    rw [← EReal.coe_strictMono.monotone.map_max, ← EReal.coe_strictMono.monotone.map_min]
    push_cast
    rfl

/-- An integer of eight bits survives the way through its bits. -/
theorem through_i8 (z : ℤ) (h : -127 ≤ z) (h' : z ≤ 127) :
    (((Ideal.fptosi 8 ((z : ℝ) : EReal)).toInt : ℝ) : EReal) = ((z : ℝ) : EReal) := by
  have e : Ideal.fptosi 8 ((z : ℝ) : EReal) = BitVec.ofInt 8 z := by
    change BitVec.ofInt 8 (max (-(2 ^ 7 : ℕ)) (min ((2 ^ 7 : ℕ) - 1) (if 0 ≤ (z : ℝ) then ⌊(z : ℝ)⌋ else ⌈(z : ℝ)⌉))) = _
    congr 1
    rw [Int.floor_intCast, Int.ceil_intCast, ite_self]
    omega
  rw [e, BitVec.toInt_ofInt_eq_self (by norm_num) (by norm_num; omega) (by norm_num; omega)]

/-- So does a level. -/
theorem level_through_i8 (B : Block) (i k : Fin 512) : (((Ideal.fptosi 8 (level B i k)).toInt : ℝ) : EReal) = level B i k := by
  obtain ⟨z, h, h', e⟩ := level_int B i k
  rw [e, through_i8 z h h']

end Cert.Quantiser
-- ==== Proof.KernelValue.lean ====
/-
# What the kernel computes

At the exact values, the kernel's result on a device as one sum over the devices: its own block of the left factor as it is, every
other block quantised, each times its rows of the weights.
-/
module

public import proofs.«01_k».proof.Proof.KernelIdealRun
public import proofs.«01_k».proof.Proof.Quantiser
public import Idealize.ShloMosaic.Lib.Pointwise

@[expose] public section

noncomputable section

namespace Cert.KernelValue

open Cert.KernelIdeal Cert.KernelIdeal.Gen Cert.KernelIdealProof Cert.Quantiser
open Idealize.ShloMosaic Idealize.ShloMosaic.TcCoe

/-- A square of values by its two coordinates. -/
def blockOf (v : Vec Ideal S512x512 .f32) : Block := fun i k => v (ix2 i k)

/-- The kernel's step is the block's. -/
theorem step_eq (v : Vec Ideal S512x512 .f32) : k0_pay2 (F := Ideal) v = step (blockOf v) := by
  unfold k0_pay2 k0_pay1
  simp only [shapeCast_id]
  pointwise []
  unfold step
  rw [← fold_eq]
  rfl

/-- The integers it sends are the block's levels. -/
theorem level_eq (v : Vec Ideal S512x512 .f32) (i k : Fin 512) :
    k0_pay3 (F := Ideal) v (ix3 0 i k) = Ideal.fptosi 8 (level (blockOf v) i k) := by
  unfold k0_pay3
  simp only [step_eq, k0_pay1, shapeCast_id]
  pointwise []
  rfl

/-- The scale it sends along is the step. -/
theorem scale_eq (v : Vec Ideal S512x512 .f32) : scaleOf (F := Ideal) (k0_pay4 (F := Ideal) v) (ix3 0 0 0) = step (blockOf v) := by
  unfold scaleOf k0_pay4
  simp only [step_eq]
  pointwise []

/-- A device's own block, times its rows of the weights. -/
theorem own_eq (x : Vec Ideal S512x512 .f32) (w : Vec Ideal S512x2048 .f32) (i : Fin 512) (n : Fin 2048) :
    k0_pay31 (F := Ideal) x w (ix2 i n) = ∑ k, blockOf x i k * w (ix2 k n) := by
  unfold k0_pay31
  simp only [shapeCast_id]
  pointwise []
  rfl

/-- A received block, times its rows of the weights, onto what is there. -/
theorem received_eq (v : Vec Ideal S512x512 .f32) (a w : Vec Ideal S512x2048 .f32) (i : Fin 512) (n : Fin 2048) :
    k0_pay35 (F := Ideal) (scaleOf (k0_pay4 v)) a (k0_pay3 v) w (ix2 i n) = a (ix2 i n) + ∑ k, sent (blockOf v) i k * w (ix2 k n) := by
  unfold k0_pay35
  simp only [shapeCast_id]
  pointwise []
  refine congrArg (a (ix2 i n) + ·) (Finset.sum_congr rfl fun k _ => congrArg (· * w (ix2 k n)) ?_)
  rw [level_eq, scale_eq]
  exact congrArg (· * step (blockOf v)) (level_through_i8 (blockOf v) i k)

variable (m : (ℓ : Loc nD τ sig) → Buf (Elt Ideal) ℓ)

/-- The rows of device `s` for device `d`, in the whole of what `s` holds. -/
theorem xrows_at (s d : Dev nD) (i k : Fin 512) :
    xrows m s d (ix2 i k) = m ((s : Thread nD τ).loc main_arg0) (ix2 ⟨d.val * 512 + i.val, by have : d.val < 8 := d.isLt; omega⟩ k) := by
  unfold xrows xstg
  rw [x_whole]
  refine congrArg (m ((s : Thread nD τ).loc main_arg0)) (funext fun a => Fin.ext ?_)
  fin_cases a
  · change 512 * d.val + 1 * i.val = d.val * 512 + i.val
    omega
  · change 0 + 1 * k.val = k.val
    omega

/-- The rows of the weights for device `s`'s block, in the whole of the weights. -/
theorem wrows_at (c s : Dev nD) (k : Fin 512) (n : Fin 2048) :
    wrows m c s (ix2 k n) = m ((c : Thread nD τ).loc main_arg1) (ix2 ⟨s.val * 512 + k.val, by have : s.val < 8 := s.isLt; omega⟩ n) := by
  unfold wrows wstg
  rw [w_whole]
  refine congrArg (m ((c : Thread nD τ).loc main_arg1)) (funext fun a => Fin.ext ?_)
  fin_cases a
  · change 512 * s.val + 1 * k.val = s.val * 512 + k.val
    omega
  · change 0 + 1 * n.val = n.val
    omega

/-- The block device `s` has for device `c`, as device `c` multiplies with it. -/
def used (c s : Dev nD) : Block := if s = c then blockOf (xrows m s c) else sent (blockOf (xrows m s c))

/-- One device's share of an entry of the result. -/
def share (c s : Dev nD) (i : Fin 512) (n : Fin 2048) : EReal := ∑ k, used m c s i k * wrows m c s (ix2 k n)

/-- The shares of a list of steps, onto what is there. -/
theorem addAll_at (c : Dev nD) (i : Fin 512) (n : Fin 2048) : ∀ (ks : List (Fin 7)) (a : Vec Ideal S512x2048 .f32),
    addAll m c ks a (ix2 i n) = a (ix2 i n) + (ks.map fun k => share m c (src c k) i n).sum
  | [], a => (add_zero _).symm
  | k :: ks, a => by
    rw [addAll_cons, addAll_at c i n ks]
    unfold addBlk
    rw [received_eq, List.map_cons, List.sum_cons, ← add_assoc]
    refine congrArg (fun z => a (ix2 i n) + z + _) ?_
    unfold share used
    rw [if_neg (src_ne c k)]

/-- An entry of the result is the sum of all devices' shares. -/
theorem outAt_at (c : Dev nD) (i : Fin 512) (n : Fin 2048) : outAt m c (ix2 i n) = ∑ s, share m c s i n := by
  unfold outAt
  rw [addAll_at, own_eq, ← Finset.add_sum_erase _ _ (Finset.mem_univ c), erase_srcs, List.sum_toFinset _ (nodup_srcs c), List.map_map]
  refine congrArg (· + _) ?_
  unfold share used
  rw [if_pos rfl]

end Cert.KernelValue
-- ==== Proof.ReferenceValue.lean ====
/-
# What the reference computes

At the exact values, an entry of the reference's result as the same sum over blocks.
-/
module

public import proofs.«01_k».proof.Proof.Gen.ReferenceIdeal.Run
public import proofs.«01_k».proof.Proof.Quantiser
public import Idealize.ShloMosaic.Lib.Pointwise

@[expose] public section

noncomputable section

namespace Cert.ReferenceValue

open Cert.ReferenceIdeal Cert.ReferenceIdeal.Gen Cert.Quantiser
open Idealize.ShloMosaic Idealize.ShloMosaic.TcCoe

variable (X : FVec Ideal S4096x4096 .f32) (W : FVec Ideal S4096x2048 .f32)

/-- The left factor in blocks. -/
def blocks : FVec Ideal S8x512x8x512 .f32 := shapeCast S8x512x8x512 X shapeCasts_S4096x4096_S8x512x8x512

/-- Every block's step. -/
def steps : FVec Ideal S8x1x8x1 .f32 :=
  Host.divf (maximumf (broadcastInDim S8x1x8x1 ![0, 2] bcast_S8x8_S8x1x8x1_0_2
      (Host.reduce FloatOps.maximumf (Host.absf (blocks X)) (constant S_ .f32 0xFF800000#32) reducesTo_S8x512x8x512_S8x8_d1_3 h_S_))
    (broadcastInDim S8x1x8x1 ![] bcast_S_S8x1x8x1 (constant S_ .f32 0x1E3CE508#32)))
    (broadcastInDim S8x1x8x1 ![] bcast_S_S8x1x8x1 (constant S_ .f32 0x42FE0000#32))

/-- The blocks' levels. -/
def levels : FVec Ideal S8x512x8x512 .f32 :=
  minimumf (broadcastInDim S8x512x8x512 ![] bcast_S_S8x512x8x512 (id (constant S_ .f32 0x42FE0000#32)))
    (maximumf (broadcastInDim S8x512x8x512 ![] bcast_S_S8x512x8x512 (id (constant S_ .f32 0xC2FE0000#32)))
      (Host.roundeven (Host.divf (blocks X) (broadcastInDim S8x512x8x512 ![0, 1, 2, 3] bcast_S8x1x8x1_S8x512x8x512_0_1_2_3 (steps X)))))

/-- Where a block stays on its device. -/
def stays : IVec S8x512x8x512 1 :=
  broadcastInDim S8x512x8x512 ![0, 1, 2, 3] bcast_S8x1x8x1_S8x512x8x512_0_1_2_3 (broadcastInDim S8x1x8x1 ![0, 2] bcast_S8x8_S8x1x8x1_0_2
    (cmpi .eq (addi (iotaInDim S8x8 32 0) (broadcastInDim S8x8 ![] bcast_S_S8x8 (constantI S_ 32 0#32))) (iotaInDim S8x8 32 1)))

/-- The blocks that are multiplied. -/
def factors : FVec Ideal S8x512x8x512 .f32 :=
  select (stays) (blocks X) (mulf (levels X) (broadcastInDim S8x512x8x512 ![0, 1, 2, 3] bcast_S8x1x8x1_S8x512x8x512_0_1_2_3 (steps X)))

/-- The reference's result. -/
def result : FVec Ideal S4096x2048 .f32 :=
  Host.dotGeneral dot_S4096x4096_S4096x2048_S4096x2048_1_0_0_1_n_n none (shapeCast S4096x4096 (factors X) shapeCasts_S8x512x8x512_S4096x4096) W

/-- Block (a, b) of the left factor. -/
def blockAt (a b : Fin 8) : Block := fun i k => X (ix2 ⟨a.val * 512 + i.val, by omega⟩ ⟨b.val * 512 + k.val, by omega⟩)

theorem blocks_at (a b : Fin 8) (i k : Fin 512) : blocks X (ix4 a i b k) = blockAt X a b i k := by
  unfold blocks blockAt
  pointwise []

/-- An index falls to (a, b) when its block is (a, b). -/
theorem drop_at (a b : Fin 8) (x : S8x512x8x512.Idx) :
    reducesTo_S8x512x8x512_S8x8_d1_3.drop x = ix2 a b ↔ x 0 = a ∧ x 2 = b := by
  constructor
  · intro h
    exact ⟨congrFun h 0, congrFun h 1⟩
  · rintro ⟨rfl, rfl⟩
    funext c
    fin_cases c <;> rfl

/-- The host's maximum over the entries of a block is the block's largest magnitude. -/
theorem top_at (a b : Fin 8) :
    Host.reduce FloatOps.maximumf (Host.absf (blocks X)) (constant S_ .f32 0xFF800000#32) reducesTo_S8x512x8x512_S8x8_d1_3 h_S_ (ix2 a b)
      = top (blockAt X a b) := by
  rw [Host.reduce_eq_fold]
  refine eq_of_forall_ge_iff fun z => (Finset.fold_max_le z).trans ?_
  rw [show constant (F := Ideal) S_ .f32 0xFF800000#32 (Shape.Idx.first h_S_) = (⊥ : EReal) from ninf_eq]
  simp only [top, bot_le, true_and, iSup_le_iff, Finset.mem_filter, Finset.mem_univ, drop_at]
  constructor
  · intro h i k
    rw [← blocks_at]
    exact h (ix4 a i b k) ⟨rfl, rfl⟩
  · rintro h x ⟨rfl, rfl⟩
    have e : blocks X x = blockAt X (x 0) (x 2) (x 1) (x 3) := (congrArg (blocks X) (eq_ix4 x)).trans (blocks_at X (x 0) (x 2) (x 1) (x 3))
    refine le_trans (le_of_eq ?_) (h (x 1) (x 3))
    rw [← e]
    rfl

/-- A step from a magnitude, at a block. -/
theorem scaled_at (t : FVec Ideal S8x8 .f32) (a b : Fin 8) :
    Host.divf (maximumf (broadcastInDim S8x1x8x1 ![0, 2] bcast_S8x8_S8x1x8x1_0_2 t)
        (broadcastInDim S8x1x8x1 ![] bcast_S_S8x1x8x1 (constant (F := Ideal) S_ .f32 0x1E3CE508#32)))
        (broadcastInDim S8x1x8x1 ![] bcast_S_S8x1x8x1 (constant (F := Ideal) S_ .f32 0x42FE0000#32)) (ix4 a 0 b 0)
      = Ideal.div (max (t (ix2 a b)) (Ideal.ofBits .f32 0x1E3CE508#32)) (Ideal.ofBits .f32 0x42FE0000#32) := by
  pointwise []

theorem steps_at (a b : Fin 8) : steps X (ix4 a 0 b 0) = step (blockAt X a b) := by
  unfold steps step
  rw [scaled_at, top_at]

theorem levels_at (a b : Fin 8) (i k : Fin 512) : levels X (ix4 a i b k) = level (blockAt X a b) i k := by
  unfold levels level
  pointwise []
  simp only [blocks_at, steps_at]
  rfl

theorem stays_at (a b : Fin 8) (i k : Fin 512) : stays (ix4 a i b k) = if b = a then 1#1 else 0#1 := by
  unfold stays
  pointwise []
  revert a b
  decide

/-- The block that is multiplied. -/
def used (a b : Fin 8) : Block := if b = a then blockAt X a b else sent (blockAt X a b)

theorem factors_at (a b : Fin 8) (i k : Fin 512) : factors X (ix4 a i b k) = used X a b i k := by
  unfold factors
  pointwise []
  rw [stays_at, blocks_at, levels_at, steps_at]
  unfold used sent
  by_cases h : b = a
  · rw [if_pos h, if_pos h]
    rfl
  · rw [if_neg h, if_neg h]
    rfl

theorem result_at (a : Fin 8) (i : Fin 512) (n : Fin 2048) :
    result X W (ix2 ⟨a.val * 512 + i.val, by omega⟩ n) = ∑ b : Fin 8, ∑ k : Fin 512, used X a b i k * W (ix2 ⟨b.val * 512 + k.val, by omega⟩ n) := by
  unfold result
  pointwise []
  rw [Fin.sum_univ_tiles 8 512 rfl]
  refine Finset.sum_congr rfl fun b _ => Finset.sum_congr rfl fun k _ => ?_
  rw [← factors_at]
  refine congrArg (fun x => factors X x * _) (funext fun c => Fin.ext ?_)
  have := k.isLt
  fin_cases c
  · rfl
  · rfl
  · change (b.val * 512 + k.val) / 512 = b.val
    omega
  · change (b.val * 512 + k.val) % 512 = k.val
    omega

end Cert.ReferenceValue
-- ==== Proof.Agreement.lean ====
/-
# The two agree

Where every device holds its columns of the left factor and the whole of the weights, what the kernel leaves on a device is that
device's rows of the reference's result.
-/
module

public import proofs.«01_k».proof.Proof.KernelValue
public import proofs.«01_k».proof.Proof.ReferenceValue
public import Idealize.ShloMosaic.Lib.Layout

@[expose] public section

noncomputable section

namespace Cert.Agreement

open Cert.KernelIdeal Cert.KernelIdealProof Cert.Quantiser
open Idealize.ShloMosaic Idealize.ShloMosaic.TcCoe

variable (m : (ℓ : Loc nD τ sig) → Buf (Elt Ideal) ℓ)
variable (X : FVec Ideal Cert.ReferenceIdeal.S4096x4096 .f32) (W : FVec Ideal Cert.ReferenceIdeal.S4096x2048 .f32)

/-- The block device `s` has for device `c` is block (c, s) of the left factor. -/
theorem blockOf_xrows (hX : ∀ c : Dev nD, m ((c.tc : Thread nD τ).loc main_arg0) = Layout.block ⟨2, ![4096, 512]⟩ ⟨2, ![4096, 4096]⟩ 1 8 c X)
    (c s : Dev nD) : KernelValue.blockOf (xrows m s c) = ReferenceValue.blockAt X c s := by
  funext i k
  refine (KernelValue.xrows_at m s c i k).trans ((congrFun (hX s) _).trans (congrArg X (funext fun a => Fin.ext ?_)))
  fin_cases a <;> rfl

/-- So both multiply with the same blocks. -/
theorem used_eq (hX : ∀ c : Dev nD, m ((c.tc : Thread nD τ).loc main_arg0) = Layout.block ⟨2, ![4096, 512]⟩ ⟨2, ![4096, 4096]⟩ 1 8 c X)
    (c s : Dev nD) : KernelValue.used m c s = ReferenceValue.used X c s := by
  unfold KernelValue.used ReferenceValue.used
  rw [blockOf_xrows m X hX]

/-- The kernel's result on a device is the device's rows of the reference's. -/
theorem outAt_eq (hX : ∀ c : Dev nD, m ((c.tc : Thread nD τ).loc main_arg0) = Layout.block ⟨2, ![4096, 512]⟩ ⟨2, ![4096, 4096]⟩ 1 8 c X)
    (hW : ∀ c : Dev nD, m ((c.tc : Thread nD τ).loc main_arg1) = W) (c : Dev nD) :
    outAt m c = Layout.block ⟨2, ![512, 2048]⟩ ⟨2, ![4096, 2048]⟩ 0 8 c (ReferenceValue.result X W) := by
  funext x
  obtain ⟨i, n, rfl⟩ : ∃ (i : Fin 512) (n : Fin 2048), x = ix2 i n := ⟨x 0, x 1, eq_ix2 x⟩
  rw [KernelValue.outAt_at]
  refine Eq.trans ?_ ((ReferenceValue.result_at X W c i n).symm.trans (congrArg (ReferenceValue.result X W) (funext fun a => Fin.ext ?_)))
  · refine Finset.sum_congr rfl fun s _ => Finset.sum_congr rfl fun k _ => ?_
    rw [used_eq m X hX, KernelValue.wrows_at, hW]
  · fin_cases a <;> rfl

end Cert.Agreement
-- ==== Proof.lean ====
/- The claims: the runs of the three programs, and the agreement of their results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.KernelIdealRun
public import proofs.«01_k».proof.Proof.Agreement
public import Idealize.ShloMosaic.Adequacy
public import Idealize.ShloMosaic.Init

@[expose] public section

noncomputable section

namespace Cert.Proof

open Idealize.ShloMosaic Idealize.SL.Sem

/-- The kernel runs, at the machine's values. -/
theorem frame_p : Cert.quiescent_Kernel (hKernel := Cert.Kernel.Gen.facts) := by
  intro m ρ _
  exact (θ_run Cert.Kernel.defs _ _).mono (fun _ h => ⟨fun c => (h.1 c).2, h.2⟩) (Cert.KernelProof.run_out (F := Bits) m ρ)

/-- It runs at the exact values. -/
theorem frame_pi : Cert.quiescent_KernelIdeal (hKernelIdeal := Cert.KernelIdeal.Gen.facts) := by
  intro m ρ _
  exact (θ_run Cert.KernelIdeal.defs _ _).mono (fun _ h => ⟨fun c => (h.1 c).2, h.2⟩) (Cert.KernelIdealProof.run_out (F := Ideal) m ρ)

/-- The reference runs at the exact values; it has no semaphores. -/
theorem frame_ri : Cert.quiescent_ReferenceIdeal (hReferenceIdeal := Cert.ReferenceIdeal.Gen.facts) := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- At the exact values the kernel's results are the rows of the reference's. -/
theorem algebraic : Cert.algebraic_KernelIdeal_ReferenceIdeal (hKernelIdeal := Cert.KernelIdeal.Gen.facts)
    (hReferenceIdeal := Cert.ReferenceIdeal.Gen.facts) := by
  intro m ρ m' ρ' _ h
  refine ⟨Cert.ReferenceValue.result
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_,
    (θ_run Cert.ReferenceIdeal.defs _ _).mono (fun _ h => h 0) (Cert.ReferenceIdeal.Value.run (F := Ideal) m' ρ')⟩
  exact (θ_run Cert.KernelIdeal.defs _ _).mono
    (fun _ r c => ⟨(r.1 c).1.trans (Cert.Agreement.outAt_eq m _ _ (fun c => (h c).1) (fun c => (h c).2) c), (r.1 c).2⟩)
    (Cert.KernelIdealProof.run_out (F := Ideal) m ρ)

theorem claim : Cert.Claim :=
  ⟨Cert.Kernel.Gen.facts, Cert.KernelIdeal.Gen.facts, Cert.ReferenceIdeal.Gen.facts, frame_p, frame_pi, frame_ri, trivial, algebraic⟩

end Cert.Proof

end
